-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_words [hPre_scale_words : Cert.Pre_scale_words.Facts] (m : (ℓ : Loc Cert.KernelIdeal.nD Cert.KernelIdeal.τ Cert.KernelIdeal.sig) → Buf (Elt Ideal) ℓ) : Prop :=
  ∀ c : Dev Cert.KernelIdeal.nD,
    (Cert.Pre_scale_words.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_words [hPre_scale_words : Cert.Pre_scale_words.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_words.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_scale_words [hKernelIdeal : Cert.KernelIdeal.Facts] [hPre_scale_words : Cert.Pre_scale_words.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_words m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_scale_words [hReferenceIdeal : Cert.ReferenceIdeal.Facts] [hPre_scale_words : Cert.Pre_scale_words.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_words m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_scale_words [hKernelIdeal : Cert.KernelIdeal.Facts] [hReferenceIdeal : Cert.ReferenceIdeal.Facts] [hPre_scale_words : Cert.Pre_scale_words.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_words m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_arg4)) (v3 : (c : Dev Cert.KernelIdeal.nD) → Buf (Elt Ideal) ((c.tc : Thread Cert.KernelIdeal.nD Cert.KernelIdeal.τ).loc Cert.KernelIdeal.main_v7_2)) (v4 : (c : Dev Cert.KernelIdeal.nD) → Buf (Elt Ideal) ((c.tc : Thread Cert.KernelIdeal.nD Cert.KernelIdeal.τ).loc Cert.KernelIdeal.main_arg6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg4) = v2 c
          ∧ r.2.mem ((c.tc : Thread Cert.KernelIdeal.nD Cert.KernelIdeal.τ).loc Cert.KernelIdeal.main_v7_2) = v3 c
          ∧ r.2.mem ((c.tc : Thread Cert.KernelIdeal.nD Cert.KernelIdeal.τ).loc Cert.KernelIdeal.main_arg6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_arg4) = v2 c
          ∧ r.2.mem ((c.tc : Thread Cert.ReferenceIdeal.nD Cert.ReferenceIdeal.τ).loc Cert.ReferenceIdeal.main_v5_2) = v3 c
          ∧ r.2.mem ((c.tc : Thread Cert.ReferenceIdeal.nD Cert.ReferenceIdeal.τ).loc Cert.ReferenceIdeal.main_arg6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_scale_words : Cert.Pre_scale_words.Facts),
    quiescent_Kernel (hKernel := hKernel)
    ∧ quiescent_KernelIdeal (hKernelIdeal := hKernelIdeal)
    ∧ quiescent_KernelIdeal_pre_scale_words (hKernelIdeal := hKernelIdeal) (hPre_scale_words := hPre_scale_words)
    ∧ quiescent_ReferenceIdeal (hReferenceIdeal := hReferenceIdeal)
    ∧ quiescent_ReferenceIdeal_pre_scale_words (hReferenceIdeal := hReferenceIdeal) (hPre_scale_words := hPre_scale_words)
    ∧ preserves_Kernel_KernelIdeal
    ∧ algebraic_KernelIdeal_ReferenceIdeal_pre_scale_words (hKernelIdeal := hKernelIdeal) (hReferenceIdeal := hReferenceIdeal) (hPre_scale_words := hPre_scale_words)
-- ==== Pre_scale_words.lean ====
abbrev S16x1x2048 : Shape := ⟨3, ![16, 1, 2048]⟩
abbrev S16x1x1x128 : Shape := ⟨4, ![16, 1, 1, 128]⟩
abbrev S16x65536x1x128 : Shape := ⟨4, ![16, 65536, 1, 128]⟩
abbrev S1 : Shape := ⟨1, ![1]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : FVec F S16x1x2048 .bf16) (main_arg1 : FVec F S16x1x1x128 .bf16) (main_arg2 : FVec F S16x1x1x128 .bf16) (main_arg3 : FVec F S16x65536x1x128 .fp8e4m3) (main_arg4 : IVec S1 32) (main_arg5 : FVec F S16x65536x1x128 .fp8e4m3) (main_arg6 : IVec S1 32) : IVec S_ 1 :=
  let main_c : IVec S_ 32 := constantI S_ 32 0#32
  let main_v0 : IVec S1 32 := broadcastInDim S1 ![] bcast_S_S1 main_c
  let main_v1 : IVec S1 1 := cmpi .sge main_arg4 main_v0
  let main_c_0 : IVec S_ 32 := constantI S_ 32 2130706432#32
  let main_v2 : IVec S1 32 := broadcastInDim S1 ![] bcast_S_S1 main_c_0
  let main_v3 : IVec S1 1 := cmpi .slt main_arg4 main_v2
  let main_v4 : IVec S1 1 := andi main_v1 main_v3
  let main_c_1 : IVec S_ 1 := constantI S_ 1 1#1
  let main_v5 : IVec S_ 1 := (fun x v => Host.reduce IntOp.andi x v reducesTo_S1_S_d0 h_S_) main_v4 main_c_1
  let main_c_2 : IVec S_ 32 := constantI S_ 32 0#32
  let main_v6 : IVec S1 32 := broadcastInDim S1 ![] bcast_S_S1 main_c_2
  let main_v7 : IVec S1 1 := cmpi .sge main_arg6 main_v6
  let main_c_3 : IVec S_ 32 := constantI S_ 32 2130706432#32
  let main_v8 : IVec S1 32 := broadcastInDim S1 ![] bcast_S_S1 main_c_3
  let main_v9 : IVec S1 1 := cmpi .slt main_arg6 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S16x1x2048 : Shape := ⟨3, ![16, 1, 2048]⟩
abbrev S16x1x1x128 : Shape := ⟨4, ![16, 1, 1, 128]⟩
abbrev S16x65536x1x128 : Shape := ⟨4, ![16, 65536, 1, 128]⟩
abbrev S1 : Shape := ⟨1, ![1]⟩
abbrev S2 : Shape := ⟨1, ![2]⟩
abbrev S16x16x128 : Shape := ⟨3, ![16, 16, 128]⟩
abbrev S16x1x128 : Shape := ⟨3, ![16, 1, 128]⟩
abbrev S16x65536x128 : Shape := ⟨3, ![16, 65536, 128]⟩
abbrev S1x16x128 : Shape := ⟨3, ![1, 16, 128]⟩
abbrev S1x1x128 : Shape := ⟨3, ![1, 1, 128]⟩
abbrev S1x16384x128 : Shape := ⟨3, ![1, 16384, 128]⟩
abbrev S32x128 : Shape := ⟨2, ![32, 128]⟩
abbrev S32x256 : Shape := ⟨2, ![32, 256]⟩
abbrev S16x128 : Shape := ⟨2, ![16, 128]⟩
abbrev S1x128 : Shape := ⟨2, ![1, 128]⟩
abbrev S16 : Shape := ⟨1, ![16]⟩
abbrev S16x1 : Shape := ⟨2, ![16, 1]⟩
abbrev S16x256 : Shape := ⟨2, ![16, 256]⟩
abbrev S1x1024x128 : Shape := ⟨3, ![1, 1024, 128]⟩
abbrev S1024x128 : Shape := ⟨2, ![1024, 128]⟩
abbrev S1024x256 : Shape := ⟨2, ![1024, 256]⟩
abbrev S32x1024 : Shape := ⟨2, ![32, 1024]⟩
abbrev S32 : Shape := ⟨1, ![32]⟩
abbrev S32x1 : Shape := ⟨2, ![32, 1]⟩

abbrev nBuf : Space → Nat
  | .hbm => 17
  | .vmem => 19
  | .smem => 2
  | _ => 0

abbrev bufTy : (tb : Table) → Fin (tcTables nBuf tb) → BufTy
  | .hbm, ⟨0, _⟩ => ⟨S16x1x2048, .bf16⟩
  | .hbm, ⟨1, _⟩ => ⟨S16x1x1x128, .bf16⟩
  | .hbm, ⟨2, _⟩ => ⟨S16x1x1x128, .bf16⟩
  | .hbm, ⟨3, _⟩ => ⟨S16x65536x1x128, .fp8e4m3⟩
  | .hbm, ⟨4, _⟩ => ⟨S1, .i32⟩
  | .hbm, ⟨5, _⟩ => ⟨S16x65536x1x128, .fp8e4m3⟩
  | .hbm, ⟨6, _⟩ => ⟨S1, .i32⟩
  | .hbm, ⟨7, _⟩ => ⟨S2, .i32⟩
  | .hbm, ⟨8, _⟩ => ⟨S2, .f32⟩
  | .hbm, ⟨9, _⟩ => ⟨S16x16x128, .bf16⟩
  | .hbm, ⟨10, _⟩ => ⟨S16x1x128, .bf16⟩
  | .hbm, ⟨11, _⟩ => ⟨S16x1x128, .bf16⟩
  | .hbm, ⟨12, _⟩ => ⟨S16x65536x128, .fp8e4m3⟩
  | .hbm, ⟨13, _⟩ => ⟨S16x65536x128, .fp8e4m3⟩
  | .hbm, ⟨14, _⟩ => ⟨S16x16x128, .bf16⟩
  | .hbm, ⟨15, _⟩ => ⟨S16x1x128, .fp8e4m3⟩
  | .hbm, ⟨16, _⟩ => ⟨S16x1x128, .fp8e4m3⟩
  | .local _ .vmem, ⟨0, _⟩ => ⟨S1x16x128, .bf16⟩
  | .local _ .vmem, ⟨1, _⟩ => ⟨S1x16x128, .bf16⟩
  | .local _ .vmem, ⟨2, _⟩ => ⟨S1x1x128, .bf16⟩
  | .local _ .vmem, ⟨3, _⟩ => ⟨S1x1x128, .bf16⟩
  | .local _ .vmem, ⟨4, _⟩ => ⟨S1x1x128, .bf16⟩
  | .local _ .vmem, ⟨5, _⟩ => ⟨S1x1x128, .bf16⟩
  | .local _ .vmem, ⟨6, _⟩ => ⟨S1x16384x128, .fp8e4m3⟩
  | .local _ .vmem, ⟨7, _⟩ => ⟨S1x16384x128, .fp8e4m3⟩
  | .local _ .vmem, ⟨8, _⟩ => ⟨S1x16384x128, .fp8e4m3⟩
  | .local _ .vmem, ⟨9, _⟩ => ⟨S1x16384x128, .fp8e4m3⟩
  | .local _ .vmem, ⟨10, _⟩ => ⟨S1x16x128, .bf16⟩
  | .local _ .vmem, ⟨11, _⟩ => ⟨S1x16x128, .bf16⟩
  | .local _ .vmem, ⟨12, _⟩ => ⟨S1x1x128, .fp8e4m3⟩
  | .local _ .vmem, ⟨13, _⟩ => ⟨S1x1x128, .fp8e4m3⟩
  | .local _ .vmem, ⟨14, _⟩ => ⟨S1x1x128, .fp8e4m3⟩
  | .local _ .vmem, ⟨15, _⟩ => ⟨S1x1x128, .fp8e4m3⟩
  | .local _ .vmem, ⟨16, _⟩ => ⟨S32x128, .f32⟩
  | .local _ .vmem, ⟨17, _⟩ => ⟨S32x128, .f32⟩
  | .local _ .vmem, ⟨18, _⟩ => ⟨S32x256, .f32⟩
  | .local _ .smem, ⟨0, _⟩ => ⟨S2, .f32⟩
  | .local _ .smem, ⟨1, _⟩ => ⟨S2, .i32⟩
  | _, _ => ⟨S16x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 4], ![false, false]⟩

def k0_cond4 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_15 : BitVec 32 := 0#32
  let v37 : BitVec 1 := Scalar.cmpi .ne v36 c0_i32_15
  v37

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_3 : BitVec 32 := 0#32
  let v6 : BitVec 1 := Scalar.cmpi .ne v5 c0_i32_3
  v6

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x16x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16384x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16384x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S16x1x2048 : Shape := ⟨3, ![16, 1, 2048]⟩
abbrev S16x1x1x128 : Shape := ⟨4, ![16, 1, 1, 128]⟩
abbrev S16x65536x1x128 : Shape := ⟨4, ![16, 65536, 1, 128]⟩
abbrev S1 : Shape := ⟨1, ![1]⟩
abbrev S16x16x128 : Shape := ⟨3, ![16, 16, 128]⟩
abbrev S16x1x128 : Shape := ⟨3, ![16, 1, 128]⟩
abbrev S16x65536x128 : Shape := ⟨3, ![16, 65536, 128]⟩
abbrev S16x16x65536 : Shape := ⟨3, ![16, 16, 65536]⟩
abbrev S16x16x1 : Shape := ⟨3, ![16, 16, 1]⟩
abbrev S16x16 : Shape := ⟨2, ![16, 16]⟩

abbrev nBuf : Space → Nat
  | .hbm => 15
  | .vmem => 8
  | .smem => 2
  | _ => 0

abbrev bufTy : (tb : Table) → Fin (tcTables nBuf tb) → BufTy
  | .hbm, ⟨0, _⟩ => ⟨S16x1x2048, .bf16⟩
  | .hbm, ⟨1, _⟩ => ⟨S16x1x1x128, .bf16⟩
  | .hbm, ⟨2, _⟩ => ⟨S16x1x1x128, .bf16⟩
  | .hbm, ⟨3, _⟩ => ⟨S16x65536x1x128, .fp8e4m3⟩
  | .hbm, ⟨4, _⟩ => ⟨S1, .i32⟩
  | .hbm, ⟨5, _⟩ => ⟨S16x65536x1x128, .fp8e4m3⟩
  | .hbm, ⟨6, _⟩ => ⟨S1, .i32⟩
  | .hbm, ⟨7, _⟩ => ⟨S16x16x128, .bf16⟩
  | .hbm, ⟨8, _⟩ => ⟨S16x1x128, .bf16⟩
  | .hbm, ⟨9, _⟩ => ⟨S16x1x128, .bf16⟩
  | .hbm, ⟨10, _⟩ => ⟨S16x65536x128, .fp8e4m3⟩
  | .hbm, ⟨11, _⟩ => ⟨S16x65536x128, .fp8e4m3⟩
  | .hbm, ⟨12, _⟩ => ⟨S16x16x128, .bf16⟩
  | .hbm, ⟨13, _⟩ => ⟨S16x1x128, .fp8e4m3⟩
  | .hbm, ⟨14, _⟩ => ⟨S16x1x128, .fp8e4m3⟩
  | .local _ .vmem, ⟨0, _⟩ => ⟨S16x16x128, .bf16⟩
  | .local _ .vmem, ⟨1, _⟩ => ⟨S16x1x128, .bf16⟩
  | .local _ .vmem, ⟨2, _⟩ => ⟨S16x1x128, .bf16⟩
  | .local _ .vmem, ⟨3, _⟩ => ⟨S16x65536x128, .fp8e4m3⟩
  | .local _ .vmem, ⟨4, _⟩ => ⟨S16x65536x128, .fp8e4m3⟩
  | .local _ .vmem, ⟨5, _⟩ => ⟨S16x16x128, .bf16⟩
  | .local _ .vmem, ⟨6, _⟩ => ⟨S16x1x128, .fp8e4m3⟩
  | .local _ .vmem, ⟨7, _⟩ => ⟨S16x1x128, .fp8e4m3⟩
  | .local _ .smem, ⟨0, _⟩ => ⟨S1, .i32⟩
  | .local _ .smem, ⟨1, _⟩ => ⟨S1, .i32⟩
  | _, _ => ⟨S16x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x16x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x65536x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x65536x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x16x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x1x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x1x128 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Sweep.lean ====
module

public import proofs.«01_k».proof.Proof.Gen.KernelIdeal

/-! What one chunk of 2048 tokens does to the running maximum, the running sum and the accumulator, and what the eight
chunks of a grid point do, in the operations of the kernel body. -/

@[expose] public section

noncomputable section

namespace Cert.KernelIdeal.Sweep

open Cert.KernelIdeal Cert.KernelIdeal.Gen Idealize.ShloMosaic

variable {F : FTy → Type} [FloatOps F]

/-- Two blocks of 1024 tokens side by side. -/
def side (a b : Vec F S1x1024x128 .fp8e4m3) : FVec F S1024x256 .fp8e4m3 :=
  concatenate S1024x256 1 [⟨S1024x128, shapeCast S1024x128 a shapeCasts_S1x1024x128_S1024x128⟩,
    ⟨S1024x128, shapeCast S1024x128 b shapeCasts_S1x1024x128_S1024x128⟩] concatenates_S1024x128_S1024x128_S1024x256_d1

/-- The codes widened and scaled. -/
def wide (w : F .bf16) (k : FVec F S1024x256 .fp8e4m3) : FVec F S1024x256 .bf16 :=
  mulf (extf .bf16 k bitsLt_fp8e4m3_bf16) (broadcast S1024x256 w)

/-- The scores of a chunk, each the product of a query row with a token, times `w`. -/
def scores {e : FTy} (w : F .f32) (q : FVec F S32x256 .bf16) (k : FVec F S1024x256 e) : FVec F S32x1024 .f32 :=
  mulf (matmul dot_S32x256_S1024x256_S32x1024_1_1_0_0_n_n none q k (constant S32x1024 .f32 0x00000000#32)) (broadcast S32x1024 w)

/-- The eight groups of 128 columns of the scores. -/
def col0 (s : FVec F S32x1024 .f32) : FVec F S32x128 .f32 := extractStridedSlice S32x128 ![0, 0] s slices_S32x1024_o0_0_S32x128
@[inherit_doc col0] def col1 (s : FVec F S32x1024 .f32) : FVec F S32x128 .f32 := extractStridedSlice S32x128 ![0, 128] s slices_S32x1024_o0_128_S32x128
@[inherit_doc col0] def col2 (s : FVec F S32x1024 .f32) : FVec F S32x128 .f32 := extractStridedSlice S32x128 ![0, 256] s slices_S32x1024_o0_256_S32x128
@[inherit_doc col0] def col3 (s : FVec F S32x1024 .f32) : FVec F S32x128 .f32 := extractStridedSlice S32x128 ![0, 384] s slices_S32x1024_o0_384_S32x128
@[inherit_doc col0] def col4 (s : FVec F S32x1024 .f32) : FVec F S32x128 .f32 := extractStridedSlice S32x128 ![0, 512] s slices_S32x1024_o0_512_S32x128
@[inherit_doc col0] def col5 (s : FVec F S32x1024 .f32) : FVec F S32x128 .f32 := extractStridedSlice S32x128 ![0, 640] s slices_S32x1024_o0_640_S32x128
@[inherit_doc col0] def col6 (s : FVec F S32x1024 .f32) : FVec F S32x128 .f32 := extractStridedSlice S32x128 ![0, 768] s slices_S32x1024_o0_768_S32x128
@[inherit_doc col0] def col7 (s : FVec F S32x1024 .f32) : FVec F S32x128 .f32 := extractStridedSlice S32x128 ![0, 896] s slices_S32x1024_o0_896_S32x128

/-- The maximum of a chunk's scores, lane by lane. -/
def laneMax (s : FVec F S32x1024 .f32) : FVec F S32x128 .f32 :=
  maximumf (maximumf (maximumf (maximumf (maximumf (maximumf (maximumf (col0 s) (col1 s)) (col2 s)) (col3 s)) (col4 s)) (col5 s)) (col6 s)) (col7 s)

/-- The running maximum after a chunk. -/
def nextM (m : FVec F S32x128 .f32) (s : FVec F S32x1024 .f32) : FVec F S32x128 .f32 :=
  maximumf m (broadcastTo S32x128 (shapeCast S32x1 (multiReduction .maximumf [1] S32 (laneMax s) 0xFF800000#32 reduces_S32x128_S32 (.inl rfl) rfl) shapeCasts_S32_S32x1) broadcasts_S32x1_S32x128)

/-- The weight a group of columns gets against the maximum `m`. -/
def weight (c m : FVec F S32x128 .f32) : FVec F S32x128 .f32 := exp (subf c m)

/-- The running sum after a chunk, where `m'` is the new maximum. -/
def nextL (m l m' : FVec F S32x128 .f32) (s : FVec F S32x1024 .f32) : FVec F S32x128 .f32 :=
  addf (mulf l (weight m m'))
    (addf (addf (addf (addf (addf (addf (addf (weight (col0 s) m') (weight (col1 s) m')) (weight (col2 s) m')) (weight (col3 s) m')) (weight (col4 s) m')) (weight (col5 s) m')) (weight (col6 s) m')) (weight (col7 s) m'))

/-- The weights of a chunk. -/
def weights (s : FVec F S32x1024 .f32) (m' : FVec F S32x128 .f32) : FVec F S32x1024 .bf16 :=
  concatenate S32x1024 1 [⟨S32x128, truncf .bf16 (weight (col0 s) m') bitsLt_bf16_f32⟩, ⟨S32x128, truncf .bf16 (weight (col1 s) m') bitsLt_bf16_f32⟩,
    ⟨S32x128, truncf .bf16 (weight (col2 s) m') bitsLt_bf16_f32⟩, ⟨S32x128, truncf .bf16 (weight (col3 s) m') bitsLt_bf16_f32⟩,
    ⟨S32x128, truncf .bf16 (weight (col4 s) m') bitsLt_bf16_f32⟩, ⟨S32x128, truncf .bf16 (weight (col5 s) m') bitsLt_bf16_f32⟩,
    ⟨S32x128, truncf .bf16 (weight (col6 s) m') bitsLt_bf16_f32⟩, ⟨S32x128, truncf .bf16 (weight (col7 s) m') bitsLt_bf16_f32⟩]
    concatenates_S32x128_S32x128_S32x128_S32x128_S32x128_S32x128_S32x128_S32x128_S32x1024_d1

/-- The weights of a chunk times its values. -/
def weighted {e : FTy} (s : FVec F S32x1024 .f32) (m' : FVec F S32x128 .f32) (v : FVec F S1024x256 e) : FVec F S32x256 .f32 :=
  matmul dot_S32x1024_S1024x256_S32x256_1_0_0_1_n_n none (weights s m') v (constant S32x256 .f32 0x00000000#32)

/-- The accumulator after a chunk whose weighted values are `pv`. -/
def nextAcc (m m' : FVec F S32x128 .f32) (acc pv : FVec F S32x256 .f32) : FVec F S32x256 .f32 :=
  addf (mulf acc (concatenate S32x256 1 [⟨S32x128, weight m m'⟩, ⟨S32x128, weight m m'⟩] concatenates_S32x128_S32x128_S32x256_d1)) pv

/-- The running maximum, the running sum and the accumulator. -/
structure St (F : FTy → Type) where
  m : FVec F S32x128 .f32
  l : FVec F S32x128 .f32
  acc : FVec F S32x256 .f32

/-- One chunk with the codes widened and scaled before the products. -/
def stepWide (ks vs : F .bf16) (q : FVec F S32x256 .bf16) (st : St F) (ka kb va vb : Vec F S1x1024x128 .fp8e4m3) : St F :=
  let s := scores (Scalar.ofBits .f32 0x3DB504F3#32) q (wide ks (side ka kb))
  let m' := nextM st.m s
  ⟨m', nextL st.m st.l m' s, nextAcc st.m m' st.acc (weighted s m' (wide vs (side va vb)))⟩

/-- One chunk with the scales applied after the products. -/
def stepExact (ks vs : F .f32) (q : FVec F S32x256 .bf16) (st : St F) (ka kb va vb : Vec F S1x1024x128 .fp8e4m3) : St F :=
  let s := scores ks q (side ka kb)
  let m' := nextM st.m s
  ⟨m', nextL st.m st.l m' s, nextAcc st.m m' st.acc (mulf (weighted s m' (side va vb)) (broadcast S32x256 vs))⟩

/-- Eight chunks in turn: chunk `c` is blocks `2 c` and `2 c + 1`. -/
def eight (step : St F → Vec F S1x1024x128 .fp8e4m3 → Vec F S1x1024x128 .fp8e4m3 → Vec F S1x1024x128 .fp8e4m3 → Vec F S1x1024x128 .fp8e4m3 → St F)
    (k v : Fin 16 → Vec F S1x1024x128 .fp8e4m3) (st : St F) : St F :=
  step (step (step (step (step (step (step (step st (k 0) (k 1) (v 0) (v 1)) (k 2) (k 3) (v 2) (v 3)) (k 4) (k 5) (v 4) (v 5)) (k 6) (k 7) (v 6) (v 7))
    (k 8) (k 9) (v 8) (v 9)) (k 10) (k 11) (v 10) (v 11)) (k 12) (k 13) (v 12) (v 13)) (k 14) (k 15) (v 14) (v 15)

end Cert.KernelIdeal.Sweep

end
-- ==== Proof.Blocks.lean ====
module

public import proofs.«01_k».proof.Proof.Gen.KernelIdeal
public import Idealize.ShloMosaic.Lib.WholeRead
public import Idealize.ShloMosaic.Lib.VecWindow
public import Idealize.ShloMosaic.Lib.ValueIdx

/-! What a load of the kernel body reads off a buffer held whole. -/

@[expose] public section

noncomputable section

namespace Cert.KernelIdeal.Blocks

open Cert.KernelIdeal Cert.KernelIdeal.Gen Idealize.ShloMosaic Idealize.ShloMosaic.ValueIdx

variable {F : FTy → Type} [FloatOps F]

/-- The 1024 tokens of a block of 16384 that start at row `r`. -/
def rows {e : EltTy} (x : Vec F S1x16384x128 e) (r : Nat) (inb : ∀ a, (![0, r, 0] : Fin 3 → Nat) a + S1x1024x128.size a ≤ S1x16384x128.size a) : Vec F S1x1024x128 e :=
  VecWindow.window (s := S1x16384x128) x ![0, r, 0] S1x1024x128.size inb

/-- The sixteen blocks of 1024 tokens. -/
def block {e : EltTy} (x : Vec F S1x16384x128 e) (o : Fin 16) : Vec F S1x1024x128 e :=
  rows x (1024 * o.val) (fun a => match a with
    | 0 => Nat.le_refl 1
    | 1 => (by have := o.isLt; show 1024 * o.val + 1024 ≤ 16384; omega)
    | 2 => Nat.le_refl 128)

/-- A block of 1024 tokens by its index. -/
theorem block_apply {e : EltTy} (x : Vec F S1x16384x128 e) (o : Fin 16) (j : S1x1024x128.Idx) :
    block x o j = x (ix3 (n0 := 1) (n1 := 16384) (n2 := 128) 0 ⟨1024 * o.val + (j 1).val, by have hj : (j 1).val < 1024 := (j 1).isLt; omega⟩ (j 2)) := by
  have h0 : (j 0).val = 0 := by have hj : (j 0).val < 1 := (j 0).isLt; omega
  refine congrArg x ?_
  funext a
  apply Fin.ext
  match a with
  | 0 => show 0 + 1 * (j 0).val = 0; omega
  | 1 => show 1024 * o.val + 1 * (j 1).val = 1024 * o.val + (j 1).val; omega
  | 2 => show 0 + 1 * (j 2).val = (j 2).val; omega

/-- A load of a buffer's own size reads the buffer. -/
theorem readAt_whole {κ : Kind} {sp : Space} {s : Shape} {e : EltTy} {m : Memref sig κ sp s e} (h : m.IsWhole) (x : Vec F s e)
    {off : Fin s.rank → Nat} (inb : ∀ a, off a + s.size a ≤ s.size a) :
    m.view.readAt (Elt F) (Rect.unit off s.size inb).toLoadRect (h.unread x) = x := by
  rw [View.readAt_full, h.read_unread]

/-- Word `o` of a pair. -/
theorem readAt_word {κ : Kind} {sp : Space} {e : EltTy} {m : Memref sig κ sp S2 e} (h : m.IsWhole) (x : Vec F S2 e)
    (o : Fin 2) (inb : ∀ a, (![o.val] : Fin 1 → Nat) a + S1.size a ≤ S2.size a) (j : S1.Idx) :
    m.view.readAt (Elt F) (Rect.unit (s := S2) ![o.val] S1.size inb).toLoadRect (h.unread x) j = x (ix1 o) := by
  rw [h.readAt_unread]
  congr 1
  funext a
  apply Fin.ext
  have h0 : (j 0).val = 0 := by have hj : (j 0).val < 1 := (j 0).isLt; omega
  match a with
  | 0 => show o.val + 1 * (j 0).val = o.val; omega

end Cert.KernelIdeal.Blocks

end
-- ==== Proof.Point.lean ====
module

public import proofs.«01_k».proof.Proof.Sweep
public import proofs.«01_k».proof.Proof.Blocks
public import proofs.«01_k».proof.Proof.Gen.KernelIdeal.Skeleton
public import proofs.«01_k».proof.Proof.Gen.KernelIdeal.Launch
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

/-! What one grid point holds before and after its body, and the functions the body computes. -/

@[expose] public section

set_option maxRecDepth 16384

noncomputable section

namespace Cert.KernelIdeal.Run

open Cert.KernelIdeal Cert.KernelIdeal.Gen Cert.KernelIdeal.Sweep Cert.KernelIdeal.Blocks
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Whether both scale words are powers of two with exponents in the range where the products by the scales are exact. -/
abbrev narrow (a b : BitVec 32) : BitVec 1 :=
  Scalar.andi (Scalar.andi (Scalar.andi (Scalar.cmpi .eq (Scalar.andi a 8388607#32) 0#32) (Scalar.cmpi .sge (Scalar.andi (Scalar.shrsi a 23#32) 255#32) 95#32)) (Scalar.cmpi .sle (Scalar.andi (Scalar.shrsi a 23#32) 255#32) 159#32))
    (Scalar.andi (Scalar.andi (Scalar.cmpi .eq (Scalar.andi b 8388607#32) 0#32) (Scalar.cmpi .sge (Scalar.andi (Scalar.shrsi b 23#32) 255#32) 95#32)) (Scalar.cmpi .sle (Scalar.andi (Scalar.shrsi b 23#32) 255#32) 159#32))

/-- The condition of the branch that applies the scales after the products. -/
abbrev takesExact (a b : BitVec 32) : Prop := (Scalar.cmpi .ne (Scalar.extui (narrow a b)) 0#32 : BitVec 1) = 1#1
/-- The condition of the branch that widens and scales the codes before the products. -/
abbrev takesWide (a b : BitVec 32) : Prop := (Scalar.cmpi .ne (Scalar.extui (Scalar.xori (narrow a b) 1#1)) 0#32 : BitVec 1) = 1#1

/-- Exactly one of the two branches is taken. -/
theorem takesWide_iff (a b : BitVec 32) : takesWide a b ↔ ¬ takesExact a b := by
  unfold takesWide takesExact
  generalize narrow a b = n
  revert n
  decide

/-- The eight chunks of a point with the codes widened and scaled. -/
def sweepWide (x0 : Vec F S2 .f32) (x2 : Vec F S1x16x128 .bf16) (x5 x6 : Vec F S1x16384x128 .fp8e4m3) (st : St F) : St F :=
  eight (stepWide (Scalar.truncf .bf16 bitsLt_bf16_f32 (x0 (ix1 0))) (Scalar.truncf .bf16 bitsLt_bf16_f32 (x0 (ix1 1))) (k0_pay415 x2)) (block x5) (block x6) st

/-- The eight chunks of a point with the scales applied after the products. -/
def sweepExact (x0 : Vec F S2 .f32) (x2 : Vec F S1x16x128 .bf16) (x5 x6 : Vec F S1x16384x128 .fp8e4m3) (st : St F) : St F :=
  eight (stepExact (k0_pay11 (x0 (ix1 0))) (k0_pay12 (x0 (ix1 1))) (k0_pay415 x2)) (block x5) (block x6) st

/-- The new key's codes. -/
def codesK (x1 : Vec F S2 .i32) (x3 : Vec F S1x1x128 .bf16) : Vec F S1x1x128 .fp8e4m3 := k0_pay4 (k0_pay2 x3 (x1 (ix1 0)))
/-- The new value's codes. -/
def codesV (x1 : Vec F S2 .i32) (x4 : Vec F S1x1x128 .bf16) : Vec F S1x1x128 .fp8e4m3 := k0_pay5 (k0_pay3 x4 (x1 (ix1 1)))

/-- The result of a batch from the state its last chunk leaves. -/
def merged (st : St F) : Vec F S1x16x128 .bf16 :=
  k0_pay1 (VecWindow.window (s := S32x128) st.m ![0, 0] S16x128.size inb_S32x128_S16x128_0_0) (VecWindow.window (s := S32x128) st.m ![16, 0] S16x128.size inb_S32x128_S16x128_16_0)
    (VecWindow.window (s := S32x128) st.l ![0, 0] S16x128.size inb_S32x128_S16x128_0_0) (VecWindow.window (s := S32x128) st.l ![16, 0] S16x128.size inb_S32x128_S16x128_16_0)
    (VecWindow.window (s := S32x256) st.acc ![0, 0] S16x128.size inb_S32x256_S16x128_0_0) (VecWindow.window (s := S32x256) st.acc ![16, 128] S16x128.size inb_S32x256_S16x128_16_128)

/-- Two blocks of 16 rows, one above the other. -/
def halves (a b : Vec F S16x128 .f32) : Vec F S32x128 .f32 := fun i =>
  if h : (i 0).val < 16 then a (ix2 ⟨(i 0).val, h⟩ (i 1)) else b (ix2 ⟨(i 0).val - 16, by have h : (i 0).val < 32 := (i 0).isLt; show _ < 16; omega⟩ (i 1))

/-- Two blocks of 128 columns side by side, above a block of 256 columns. -/
def thirds (a b : Vec F S16x128 .f32) (d : Vec F S16x256 .f32) : Vec F S32x256 .f32 := fun i =>
  if h : (i 0).val < 16 then
    (if g : (i 1).val < 128 then a (ix2 ⟨(i 0).val, h⟩ ⟨(i 1).val, g⟩)
    else b (ix2 ⟨(i 0).val, h⟩ ⟨(i 1).val - 128, by have h : (i 1).val < 256 := (i 1).isLt; show _ < 128; omega⟩))
  else d (ix2 ⟨(i 0).val - 16, by have h : (i 0).val < 32 := (i 0).isLt; show _ < 16; omega⟩ (i 1))

/-- The state a batch starts from: one half holds the new token alone, in lane 0, the other half nothing. -/
def start (x0 : Vec F S2 .f32) (x1 : Vec F S2 .i32) (x2 : Vec F S1x16x128 .bf16) (x3 x4 : Vec F S1x1x128 .bf16) : St F where
  m := halves (k0_pay8 (x0 (ix1 0)) (k0_pay409 x2) (k0_pay2 x3 (x1 (ix1 0)))) (k0_pay9 (F := F))
  l := halves (k0_pay410 (k0_pay10 (F := F))) (k0_pay411 (k0_pay7 (F := F)))
  acc := thirds (k0_pay412 (k0_pay6 (x0 (ix1 1)) (k0_pay3 x4 (x1 (ix1 1))))) (k0_pay413 (k0_pay7 (F := F))) (k0_pay414 (F := F))

/-- A load of 32 rows after two stores of 16 rows. -/
theorem readCov_halves {sig : RefSig} {κ : Kind} {sp : Space} (v : View sig κ sp S32x128 .f32) (a b : Vec F S16x128 .f32) :
    v.readCov (Val := Elt F) [⟨Rect.unit (s := S32x128) ![16, 0] S16x128.size inb_S32x128_S16x128_16_0, b⟩, ⟨Rect.unit (s := S32x128) ![0, 0] S16x128.size inb_S32x128_S16x128_0_0, a⟩]
      (Rect.unit (s := S32x128) ![0, 0] S32x128.size inb_S32x128_S32x128_0_0).toLoadRect = halves a b := by
  refine (View.readAt_full v _ _).trans (funext fun y => ?_)
  have h0 : (y 0).val < 32 := (y 0).isLt
  have h1 : (y 1).val < 128 := (y 1).isLt
  unfold halves
  split
  next h =>
    refine (View.read_writes_cons_unit_of_not_mem v _ _ _ _ y rfl 0 (Or.inl h)).trans ?_
    exact View.read_writes_cons_unit_of_mem v _ _ _ _ y _ rfl (Fin.forall_fin_two.mpr ⟨(Nat.zero_add _).symm, (Nat.zero_add _).symm⟩)
  next h =>
    exact View.read_writes_cons_unit_of_mem v _ _ _ _ y _ rfl (Fin.forall_fin_two.mpr ⟨by show (y 0).val = 16 + ((y 0).val - 16); omega, (Nat.zero_add _).symm⟩)

/-- A load of 32 rows of 256 columns after stores of its three parts. -/
theorem readCov_thirds {sig : RefSig} {κ : Kind} {sp : Space} (v : View sig κ sp S32x256 .f32) (a b : Vec F S16x128 .f32) (d : Vec F S16x256 .f32) :
    v.readCov (Val := Elt F) [⟨Rect.unit (s := S32x256) ![16, 0] S16x256.size inb_S32x256_S16x256_16_0, d⟩, ⟨Rect.unit (s := S32x256) ![0, 128] S16x128.size inb_S32x256_S16x128_0_128, b⟩, ⟨Rect.unit (s := S32x256) ![0, 0] S16x128.size inb_S32x256_S16x128_0_0, a⟩]
      (Rect.unit (s := S32x256) ![0, 0] S32x256.size inb_S32x256_S32x256_0_0).toLoadRect = thirds a b d := by
  refine (View.readAt_full v _ _).trans (funext fun y => ?_)
  have h0 : (y 0).val < 32 := (y 0).isLt
  have h1 : (y 1).val < 256 := (y 1).isLt
  unfold thirds
  split
  next h =>
    refine (View.read_writes_cons_unit_of_not_mem v _ _ _ _ y rfl 0 (Or.inl h)).trans ?_
    split
    next g =>
      refine (View.read_writes_cons_unit_of_not_mem v _ _ _ _ y rfl 1 (Or.inl g)).trans ?_
      exact View.read_writes_cons_unit_of_mem v _ _ _ _ y _ rfl (Fin.forall_fin_two.mpr ⟨(Nat.zero_add _).symm, (Nat.zero_add _).symm⟩)
    next g =>
      exact View.read_writes_cons_unit_of_mem v _ _ _ _ y _ rfl (Fin.forall_fin_two.mpr ⟨(Nat.zero_add _).symm, by show (y 1).val = 128 + ((y 1).val - 128); omega⟩)
  next h =>
    exact View.read_writes_cons_unit_of_mem v _ _ _ _ y _ rfl (Fin.forall_fin_two.mpr ⟨by show (y 0).val = 16 + ((y 0).val - 16); omega, (Nat.zero_add _).symm⟩)

/-- A load of a part after a store of the whole. -/
theorem readCov_part {sig : RefSig} {κ : Kind} {sp : Space} {s : Shape} {e : EltTy} (v : View sig κ sp s e) {off off' size : Fin s.rank → ℕ} (inb : ∀ a, off' a + s.size a ≤ s.size a) (inb' : ∀ a, off a + size a ≤ s.size a)
    (L : List (View.Piece (Elt F) s e)) {w x : s.Idx → Elt F e} (hw : w = x) :
    v.readCov (Val := Elt F) (⟨Rect.unit off' s.size inb, w⟩ :: L) (Rect.unit off size inb').toLoadRect = VecWindow.window x off size inb' := by
  subst hw
  exact (View.readAt_unit v _ inb' rfl inb').trans (by rw [View.read_writes_full])

/-- The result of a batch, from the six parts of the state. -/
theorem merged_of {st : St F} {a b l l' p q : Vec F S16x128 .f32}
    (ha : a = VecWindow.window (s := S32x128) st.m ![0, 0] S16x128.size inb_S32x128_S16x128_0_0) (hb : b = VecWindow.window (s := S32x128) st.m ![16, 0] S16x128.size inb_S32x128_S16x128_16_0)
    (hl : l = VecWindow.window (s := S32x128) st.l ![0, 0] S16x128.size inb_S32x128_S16x128_0_0) (hl' : l' = VecWindow.window (s := S32x128) st.l ![16, 0] S16x128.size inb_S32x128_S16x128_16_0)
    (hp : p = VecWindow.window (s := S32x256) st.acc ![0, 0] S16x128.size inb_S32x256_S16x128_0_0) (hq : q = VecWindow.window (s := S32x256) st.acc ![16, 128] S16x128.size inb_S32x256_S16x128_16_128) :
    k0_pay1 a b l l' p q = merged st := by
  subst ha hb hl hl' hp hq; rfl

/-- The buffers of one grid point: the arguments' blocks, the results' and the running state. -/
def held (c : Dev nD) (arg2 : Memref sig .tc .smem S2 .f32) (arg3 : Memref sig .tc .smem S2 .i32) (arg4 : Memref sig .tc .vmem S1x16x128 .bf16) (arg5 : Memref sig .tc .vmem S1x1x128 .bf16) (arg6 : Memref sig .tc .vmem S1x1x128 .bf16) (arg7 : Memref sig .tc .vmem S1x16384x128 .fp8e4m3) (arg8 : Memref sig .tc .vmem S1x16384x128 .fp8e4m3)
    (arg9 : Memref sig .tc .vmem S1x16x128 .bf16) (arg10 : Memref sig .tc .vmem S1x1x128 .fp8e4m3) (arg11 : Memref sig .tc .vmem S1x1x128 .fp8e4m3) (arg12 : Memref sig .tc .vmem S32x128 .f32) (arg13 : Memref sig .tc .vmem S32x128 .f32) (arg14 : Memref sig .tc .vmem S32x256 .f32)
    (x0 : Vec F S2 .f32) (x1 : Vec F S2 .i32) (x2 : Vec F S1x16x128 .bf16) (x3 : Vec F S1x1x128 .bf16) (x4 : Vec F S1x1x128 .bf16) (x5 : Vec F S1x16384x128 .fp8e4m3) (x6 : Vec F S1x16384x128 .fp8e4m3)
    (x7 : Vec F S1x16x128 .bf16) (x8 : Vec F S1x1x128 .fp8e4m3) (x9 : Vec F S1x1x128 .fp8e4m3) (st : St F) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
    ∗ owns (c : Thread nD τ) arg9 fullShare x7 ∗ owns (c : Thread nD τ) arg10 fullShare x8 ∗ owns (c : Thread nD τ) arg11 fullShare x9
    ∗ owns (c : Thread nD τ) arg12 fullShare st.m ∗ owns (c : Thread nD τ) arg13 fullShare st.l ∗ owns (c : Thread nD τ) arg14 fullShare st.acc)

section Reads

variable (c : Dev nD) (arg2 : Memref sig .tc .smem S2 .f32) (harg2 : arg2.IsWhole) (arg3 : Memref sig .tc .smem S2 .i32) (harg3 : arg3.IsWhole) (arg4 : Memref sig .tc .vmem S1x16x128 .bf16) (harg4 : arg4.IsWhole) (arg5 : Memref sig .tc .vmem S1x1x128 .bf16) (harg5 : arg5.IsWhole) (arg6 : Memref sig .tc .vmem S1x1x128 .bf16) (harg6 : arg6.IsWhole) (arg7 : Memref sig .tc .vmem S1x16384x128 .fp8e4m3) (harg7 : arg7.IsWhole) (arg8 : Memref sig .tc .vmem S1x16384x128 .fp8e4m3) (harg8 : arg8.IsWhole)
  (arg9 : Memref sig .tc .vmem S1x16x128 .bf16) (harg9 : arg9.IsWhole) (arg10 : Memref sig .tc .vmem S1x1x128 .fp8e4m3) (harg10 : arg10.IsWhole) (arg11 : Memref sig .tc .vmem S1x1x128 .fp8e4m3) (harg11 : arg11.IsWhole) (arg12 : Memref sig .tc .vmem S32x128 .f32) (harg12 : arg12.IsWhole) (arg13 : Memref sig .tc .vmem S32x128 .f32) (harg13 : arg13.IsWhole) (arg14 : Memref sig .tc .vmem S32x256 .f32) (harg14 : arg14.IsWhole)

/-- Word `o` of a pair as the body's loads read it. -/
abbrev words {e : EltTy} {arg2 : Memref sig .tc .smem S2 e} (h : arg2.IsWhole) (x0 : Vec F S2 e) : Vec F S2 e := fun j =>
  arg2.view.readAt (Elt F) (Rect.unit (s := S2) ![(j 0).val] S1.size (by have h : (j 0).val < 2 := (j 0).isLt; intro a; match a with | 0 => show (j 0).val + 1 ≤ 2; omega)).toLoadRect (h.unread x0) (Shape.Idx.first (numel1_S1.symm ▸ Nat.one_pos))

theorem words_eq {e : EltTy} {arg2 : Memref sig .tc .smem S2 e} (h : arg2.IsWhole) (x0 : Vec F S2 e) : words h x0 = x0 := by
  funext j
  unfold words
  rw [readAt_word h x0 (j 0)]
  congr 1; funext a; match a with | 0 => rfl

/-- The state as the body's loads of the whole scratch read it. -/
abbrev loaded (h12 : arg12.IsWhole) (h13 : arg13.IsWhole) (h14 : arg14.IsWhole) (st : St F) : St F :=
  ⟨arg12.view.readAt (Elt F) (Rect.unit (s := S32x128) ![0, 0] S32x128.size inb_S32x128_S32x128_0_0).toLoadRect (h12.unread st.m),
    arg13.view.readAt (Elt F) (Rect.unit (s := S32x128) ![0, 0] S32x128.size inb_S32x128_S32x128_0_0).toLoadRect (h13.unread st.l),
    arg14.view.readAt (Elt F) (Rect.unit (s := S32x256) ![0, 0] S32x256.size inb_S32x256_S32x256_0_0).toLoadRect (h14.unread st.acc)⟩

theorem loaded_eq (h12 : arg12.IsWhole) (h13 : arg13.IsWhole) (h14 : arg14.IsWhole) (st : St F) : loaded arg12 arg13 arg14 h12 h13 h14 st = st := by
  unfold loaded
  rw [readAt_whole h12, readAt_whole h13, readAt_whole h14]

/-- The query block as the body's load reads it. -/
abbrev query (h : arg4.IsWhole) (x2 : Vec F S1x16x128 .bf16) : Vec F S1x16x128 .bf16 :=
  arg4.view.readAt (Elt F) (Rect.unit (s := S1x16x128) ![0, 0, 0] S1x16x128.size inb_S1x16x128_S1x16x128_0_0_0).toLoadRect (h.unread x2)

theorem query_eq (h : arg4.IsWhole) (x2 : Vec F S1x16x128 .bf16) : query arg4 h x2 = x2 := readAt_whole h x2 _

/-- The starting state as the body's loads read it after its stores. -/
abbrev loadedStart (x0 : Vec F S2 .f32) (x1 : Vec F S2 .i32) (x2 : Vec F S1x16x128 .bf16) (x3 x4 : Vec F S1x1x128 .bf16) : St F where
  m := arg12.view.readCov (Val := Elt F) [⟨Rect.unit (s := S32x128) ![16, 0] S16x128.size inb_S32x128_S16x128_16_0, k0_pay9 (F := F)⟩,
      ⟨Rect.unit (s := S32x128) ![0, 0] S16x128.size inb_S32x128_S16x128_0_0, k0_pay8 (words harg2 x0 (ix1 0)) (k0_pay409 (query arg4 harg4 x2))
        (k0_pay2 (arg5.view.readAt (Elt F) (Rect.unit (s := S1x1x128) ![0, 0, 0] S1x1x128.size inb_S1x1x128_S1x1x128_0_0_0).toLoadRect (harg5.unread x3)) (words harg3 x1 (ix1 0)))⟩]
    (Rect.unit (s := S32x128) ![0, 0] S32x128.size inb_S32x128_S32x128_0_0).toLoadRect
  l := arg13.view.readCov (Val := Elt F) [⟨Rect.unit (s := S32x128) ![16, 0] S16x128.size inb_S32x128_S16x128_16_0, k0_pay411 (k0_pay7 (F := F))⟩,
      ⟨Rect.unit (s := S32x128) ![0, 0] S16x128.size inb_S32x128_S16x128_0_0, k0_pay410 (k0_pay10 (F := F))⟩]
    (Rect.unit (s := S32x128) ![0, 0] S32x128.size inb_S32x128_S32x128_0_0).toLoadRect
  acc := arg14.view.readCov (Val := Elt F) [⟨Rect.unit (s := S32x256) ![16, 0] S16x256.size inb_S32x256_S16x256_16_0, k0_pay414 (F := F)⟩,
      ⟨Rect.unit (s := S32x256) ![0, 128] S16x128.size inb_S32x256_S16x128_0_128, k0_pay413 (k0_pay7 (F := F))⟩,
      ⟨Rect.unit (s := S32x256) ![0, 0] S16x128.size inb_S32x256_S16x128_0_0, k0_pay412 (k0_pay6 (words harg2 x0 (ix1 1))
        (k0_pay3 (arg6.view.readAt (Elt F) (Rect.unit (s := S1x1x128) ![0, 0, 0] S1x1x128.size inb_S1x1x128_S1x1x128_0_0_0).toLoadRect (harg6.unread x4)) (words harg3 x1 (ix1 1))))⟩]
    (Rect.unit (s := S32x256) ![0, 0] S32x256.size inb_S32x256_S32x256_0_0).toLoadRect

theorem loadedStart_eq (x0 : Vec F S2 .f32) (x1 : Vec F S2 .i32) (x2 : Vec F S1x16x128 .bf16) (x3 x4 : Vec F S1x1x128 .bf16) :
    loadedStart arg2 harg2 arg3 harg3 arg4 harg4 arg5 harg5 arg6 harg6 arg12 arg13 arg14 x0 x1 x2 x3 x4 = start x0 x1 x2 x3 x4 := by
  unfold loadedStart start
  rw [readCov_halves, readCov_halves, readCov_thirds, words_eq, words_eq, query_eq, readAt_whole harg5, readAt_whole harg6]

end Reads

end Cert.KernelIdeal.Run

end
-- ==== Proof.RunFirstExact.lean ====
module

public import proofs.«01_k».proof.Proof.Point

/-! The body at the first point of a batch, the scales applied after the products. -/

@[expose] public section

set_option maxRecDepth 16384

noncomputable section

namespace Cert.KernelIdeal.Run

open Cert.KernelIdeal Cert.KernelIdeal.Gen Cert.KernelIdeal.Sweep Cert.KernelIdeal.Blocks
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1600000 in
/-- At the first point of a batch the body writes the new token's codes, starts the state from the new token and takes the point's chunks, the scales applied after the products. -/
theorem run_first_exact (c : Dev nD) (i : grid0.Coords) (arg2 : Memref sig .tc .smem S2 .f32) (harg2 : arg2.IsWhole) (arg3 : Memref sig .tc .smem S2 .i32) (harg3 : arg3.IsWhole) (arg4 : Memref sig .tc .vmem S1x16x128 .bf16) (harg4 : arg4.IsWhole) (arg5 : Memref sig .tc .vmem S1x1x128 .bf16) (harg5 : arg5.IsWhole) (arg6 : Memref sig .tc .vmem S1x1x128 .bf16) (harg6 : arg6.IsWhole) (arg7 : Memref sig .tc .vmem S1x16384x128 .fp8e4m3) (harg7 : arg7.IsWhole) (arg8 : Memref sig .tc .vmem S1x16384x128 .fp8e4m3) (harg8 : arg8.IsWhole)
  (arg9 : Memref sig .tc .vmem S1x16x128 .bf16) (harg9 : arg9.IsWhole) (arg10 : Memref sig .tc .vmem S1x1x128 .fp8e4m3) (harg10 : arg10.IsWhole) (arg11 : Memref sig .tc .vmem S1x1x128 .fp8e4m3) (harg11 : arg11.IsWhole) (arg12 : Memref sig .tc .vmem S32x128 .f32) (harg12 : arg12.IsWhole) (arg13 : Memref sig .tc .vmem S32x128 .f32) (harg13 : arg13.IsWhole) (arg14 : Memref sig .tc .vmem S32x256 .f32) (harg14 : arg14.IsWhole)
    (x0 : Vec F S2 .f32) (x1 : Vec F S2 .i32) (x2 : Vec F S1x16x128 .bf16) (x3 : Vec F S1x1x128 .bf16) (x4 : Vec F S1x1x128 .bf16) (x5 : Vec F S1x16384x128 .fp8e4m3) (x6 : Vec F S1x16384x128 .fp8e4m3) (x7 : Vec F S1x16x128 .bf16) (x8 : Vec F S1x1x128 .fp8e4m3) (x9 : Vec F S1x1x128 .fp8e4m3) (st : St F)
    (hc0 : k0_cond1 i = 1#1) (hc3 : ¬ k0_cond4 i = 1#1) (hc1 : takesExact (x1 (ix1 0)) (x1 (ix1 1))) (hc2 : ¬ takesWide (x1 (ix1 0)) (x1 (ix1 1))) (E : Set ℕ) (K : PUnit → sProp 𝕄) :
    iprop(held c arg2 arg3 arg4 arg5 arg6 arg7 arg8 arg9 arg10 arg11 arg12 arg13 arg14 x0 x1 x2 x3 x4 x5 x6 x7 x8 x9 st ∗ (held c arg2 arg3 arg4 arg5 arg6 arg7 arg8 arg9 arg10 arg11 arg12 arg13 arg14 x0 x1 x2 x3 x4 x5 x6 x7 (codesK x1 x3) (codesV x1 x4) (sweepExact x0 x2 x5 x6 (start x0 x1 x2 x3 x4)) -∗ K ⟨⟩))
      ⊢ wp frame (wpE (defs₀ (F := F)) Variants.none c none) E (cc0_gqa_decode_fp8 i arg2 harg2 arg3 harg3 arg4 harg4 arg5 harg5 arg6 harg6 arg7 harg7 arg8 harg8 arg9 harg9 arg10 harg10 arg11 harg11 arg12 harg12 arg13 harg13 arg14 harg14) K := by
  have e0 := readAt_word (F := F) harg3 x1 0 inb_S2_S1_0 (Shape.Idx.first (numel1_S1.symm ▸ Nat.one_pos))
  have e1 := readAt_word (F := F) harg3 x1 1 inb_S2_S1_1 (Shape.Idx.first (numel1_S1.symm ▸ Nat.one_pos))
  rw [← e0, ← e1] at hc1 hc2
  have E0 : sweepExact (words harg2 x0) (query arg4 harg4 x2) (arg7.view.read (Elt F) (harg7.unread x5)) (arg8.view.read (Elt F) (harg8.unread x6)) (loadedStart arg2 harg2 arg3 harg3 arg4 harg4 arg5 harg5 arg6 harg6 arg12 arg13 arg14 x0 x1 x2 x3 x4) = sweepExact x0 x2 x5 x6 (start x0 x1 x2 x3 x4) := by
    rw [words_eq, loadedStart_eq, query_eq, harg7.read_unread, harg8.read_unread]
  simp only [cc0_gqa_decode_fp8_eq_skeleton]; unfold cc0_gqa_decode_fp8_skel
  simp only [k0_part28_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hfs0; obtain rfl := harg13.eq_unread hfs1; obtain rfl := harg14.eq_unread hfs2
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    exact hf7
  isplitl [H8]
  · iexists _; isplitr; swap; · iexact H8
    ipureintro
    refine (View.read_writes_full _ _ _ _ _).trans ?_
    exact congrArg₂ (fun a b => k0_pay4 (k0_pay2 a b)) (readAt_whole harg5 x3 inb_S1x1x128_S1x1x128_0_0_0) e0
  isplitl [H9]
  · iexists _; isplitr; swap; · iexact H9
    ipureintro
    refine (View.read_writes_full _ _ _ _ _).trans ?_
    exact congrArg₂ (fun a b => k0_pay5 (k0_pay3 a b)) (readAt_whole harg6 x4 inb_S1x1x128_S1x1x128_0_0_0) e1
  isplitl [HS0]
  · iexists _; isplitr; swap; · iexact HS0
    ipureintro
    refine (View.read_writes_full _ _ _ _ _).trans ?_
    exact (shapeCast_self _ shapeCasts_S32x128_S32x128).trans (congrArg St.m E0)
  isplitl [HS1]
  · iexists _; isplitr; swap; · iexact HS1
    ipureintro
    refine (View.read_writes_full _ _ _ _ _).trans ?_
    exact (shapeCast_self _ shapeCasts_S32x128_S32x128).trans (congrArg St.l E0)
  iexists _; isplitr; swap; · iexact HS2
  ipureintro
  refine (View.read_writes_full _ _ _ _ _).trans ?_
  exact (shapeCast_self _ shapeCasts_S32x256_S32x256).trans (congrArg St.acc E0)

end Cert.KernelIdeal.Run

end
-- ==== Proof.RunFirstWide.lean ====
module

public import proofs.«01_k».proof.Proof.Point

/-! The body at the first point of a batch, the codes widened and scaled first. -/

@[expose] public section

set_option maxRecDepth 16384

noncomputable section

namespace Cert.KernelIdeal.Run

open Cert.KernelIdeal Cert.KernelIdeal.Gen Cert.KernelIdeal.Sweep Cert.KernelIdeal.Blocks
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1600000 in
/-- At the first point of a batch the body writes the new token's codes, starts the state from the new token and takes the point's chunks, the codes widened and scaled first. -/
theorem run_first_wide (c : Dev nD) (i : grid0.Coords) (arg2 : Memref sig .tc .smem S2 .f32) (harg2 : arg2.IsWhole) (arg3 : Memref sig .tc .smem S2 .i32) (harg3 : arg3.IsWhole) (arg4 : Memref sig .tc .vmem S1x16x128 .bf16) (harg4 : arg4.IsWhole) (arg5 : Memref sig .tc .vmem S1x1x128 .bf16) (harg5 : arg5.IsWhole) (arg6 : Memref sig .tc .vmem S1x1x128 .bf16) (harg6 : arg6.IsWhole) (arg7 : Memref sig .tc .vmem S1x16384x128 .fp8e4m3) (harg7 : arg7.IsWhole) (arg8 : Memref sig .tc .vmem S1x16384x128 .fp8e4m3) (harg8 : arg8.IsWhole)
  (arg9 : Memref sig .tc .vmem S1x16x128 .bf16) (harg9 : arg9.IsWhole) (arg10 : Memref sig .tc .vmem S1x1x128 .fp8e4m3) (harg10 : arg10.IsWhole) (arg11 : Memref sig .tc .vmem S1x1x128 .fp8e4m3) (harg11 : arg11.IsWhole) (arg12 : Memref sig .tc .vmem S32x128 .f32) (harg12 : arg12.IsWhole) (arg13 : Memref sig .tc .vmem S32x128 .f32) (harg13 : arg13.IsWhole) (arg14 : Memref sig .tc .vmem S32x256 .f32) (harg14 : arg14.IsWhole)
    (x0 : Vec F S2 .f32) (x1 : Vec F S2 .i32) (x2 : Vec F S1x16x128 .bf16) (x3 : Vec F S1x1x128 .bf16) (x4 : Vec F S1x1x128 .bf16) (x5 : Vec F S1x16384x128 .fp8e4m3) (x6 : Vec F S1x16384x128 .fp8e4m3) (x7 : Vec F S1x16x128 .bf16) (x8 : Vec F S1x1x128 .fp8e4m3) (x9 : Vec F S1x1x128 .fp8e4m3) (st : St F)
    (hc0 : k0_cond1 i = 1#1) (hc3 : ¬ k0_cond4 i = 1#1) (hc1 : ¬ takesExact (x1 (ix1 0)) (x1 (ix1 1))) (hc2 : takesWide (x1 (ix1 0)) (x1 (ix1 1))) (E : Set ℕ) (K : PUnit → sProp 𝕄) :
    iprop(held c arg2 arg3 arg4 arg5 arg6 arg7 arg8 arg9 arg10 arg11 arg12 arg13 arg14 x0 x1 x2 x3 x4 x5 x6 x7 x8 x9 st ∗ (held c arg2 arg3 arg4 arg5 arg6 arg7 arg8 arg9 arg10 arg11 arg12 arg13 arg14 x0 x1 x2 x3 x4 x5 x6 x7 (codesK x1 x3) (codesV x1 x4) (sweepWide x0 x2 x5 x6 (start x0 x1 x2 x3 x4)) -∗ K ⟨⟩))
      ⊢ wp frame (wpE (defs₀ (F := F)) Variants.none c none) E (cc0_gqa_decode_fp8 i arg2 harg2 arg3 harg3 arg4 harg4 arg5 harg5 arg6 harg6 arg7 harg7 arg8 harg8 arg9 harg9 arg10 harg10 arg11 harg11 arg12 harg12 arg13 harg13 arg14 harg14) K := by
  have e0 := readAt_word (F := F) harg3 x1 0 inb_S2_S1_0 (Shape.Idx.first (numel1_S1.symm ▸ Nat.one_pos))
  have e1 := readAt_word (F := F) harg3 x1 1 inb_S2_S1_1 (Shape.Idx.first (numel1_S1.symm ▸ Nat.one_pos))
  rw [← e0, ← e1] at hc1 hc2
  have E0 : sweepWide (words harg2 x0) (query arg4 harg4 x2) (arg7.view.read (Elt F) (harg7.unread x5)) (arg8.view.read (Elt F) (harg8.unread x6)) (loadedStart arg2 harg2 arg3 harg3 arg4 harg4 arg5 harg5 arg6 harg6 arg12 arg13 arg14 x0 x1 x2 x3 x4) = sweepWide x0 x2 x5 x6 (start x0 x1 x2 x3 x4) := by
    rw [words_eq, loadedStart_eq, query_eq, harg7.read_unread, harg8.read_unread]
  simp only [cc0_gqa_decode_fp8_eq_skeleton]; unfold cc0_gqa_decode_fp8_skel
  simp only [k0_part28_eq_skeleton, k0_part1_eq_skeleton, k0_part2_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hfs0; obtain rfl := harg13.eq_unread hfs1; obtain rfl := harg14.eq_unread hfs2
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    exact hf7
  isplitl [H8]
  · iexists _; isplitr; swap; · iexact H8
    ipureintro
    refine (View.read_writes_full _ _ _ _ _).trans ?_
    exact congrArg₂ (fun a b => k0_pay4 (k0_pay2 a b)) (readAt_whole harg5 x3 inb_S1x1x128_S1x1x128_0_0_0) e0
  isplitl [H9]
  · iexists _; isplitr; swap; · iexact H9
    ipureintro
    refine (View.read_writes_full _ _ _ _ _).trans ?_
    exact congrArg₂ (fun a b => k0_pay5 (k0_pay3 a b)) (readAt_whole harg6 x4 inb_S1x1x128_S1x1x128_0_0_0) e1
  isplitl [HS0]
  · iexists _; isplitr; swap; · iexact HS0
    ipureintro
    refine (View.read_writes_full _ _ _ _ _).trans ?_
    exact (shapeCast_self _ shapeCasts_S32x128_S32x128).trans (congrArg St.m E0)
  isplitl [HS1]
  · iexists _; isplitr; swap; · iexact HS1
    ipureintro
    refine (View.read_writes_full _ _ _ _ _).trans ?_
    exact (shapeCast_self _ shapeCasts_S32x128_S32x128).trans (congrArg St.l E0)
  iexists _; isplitr; swap; · iexact HS2
  ipureintro
  refine (View.read_writes_full _ _ _ _ _).trans ?_
  unfold run_first_wide.sl.r_111 k0_pay408
  exact (shapeCast_self _ shapeCasts_S32x256_S32x256).trans (congrArg St.acc E0)

end Cert.KernelIdeal.Run

end
-- ==== Proof.RunMidExact.lean ====
module

public import proofs.«01_k».proof.Proof.Point

/-! The body between the first and the last point of a batch, the scales applied after the products. -/

@[expose] public section

set_option maxRecDepth 16384

noncomputable section

namespace Cert.KernelIdeal.Run

open Cert.KernelIdeal Cert.KernelIdeal.Gen Cert.KernelIdeal.Sweep Cert.KernelIdeal.Blocks
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1600000 in
/-- Between the first and the last point of a batch the body takes the point's chunks, the scales applied after the products. -/
theorem run_mid_exact (c : Dev nD) (i : grid0.Coords) (arg2 : Memref sig .tc .smem S2 .f32) (harg2 : arg2.IsWhole) (arg3 : Memref sig .tc .smem S2 .i32) (harg3 : arg3.IsWhole) (arg4 : Memref sig .tc .vmem S1x16x128 .bf16) (harg4 : arg4.IsWhole) (arg5 : Memref sig .tc .vmem S1x1x128 .bf16) (harg5 : arg5.IsWhole) (arg6 : Memref sig .tc .vmem S1x1x128 .bf16) (harg6 : arg6.IsWhole) (arg7 : Memref sig .tc .vmem S1x16384x128 .fp8e4m3) (harg7 : arg7.IsWhole) (arg8 : Memref sig .tc .vmem S1x16384x128 .fp8e4m3) (harg8 : arg8.IsWhole)
  (arg9 : Memref sig .tc .vmem S1x16x128 .bf16) (harg9 : arg9.IsWhole) (arg10 : Memref sig .tc .vmem S1x1x128 .fp8e4m3) (harg10 : arg10.IsWhole) (arg11 : Memref sig .tc .vmem S1x1x128 .fp8e4m3) (harg11 : arg11.IsWhole) (arg12 : Memref sig .tc .vmem S32x128 .f32) (harg12 : arg12.IsWhole) (arg13 : Memref sig .tc .vmem S32x128 .f32) (harg13 : arg13.IsWhole) (arg14 : Memref sig .tc .vmem S32x256 .f32) (harg14 : arg14.IsWhole)
    (x0 : Vec F S2 .f32) (x1 : Vec F S2 .i32) (x2 : Vec F S1x16x128 .bf16) (x3 : Vec F S1x1x128 .bf16) (x4 : Vec F S1x1x128 .bf16) (x5 : Vec F S1x16384x128 .fp8e4m3) (x6 : Vec F S1x16384x128 .fp8e4m3) (x7 : Vec F S1x16x128 .bf16) (x8 : Vec F S1x1x128 .fp8e4m3) (x9 : Vec F S1x1x128 .fp8e4m3) (st : St F)
    (hc0 : ¬ k0_cond1 i = 1#1) (hc3 : ¬ k0_cond4 i = 1#1) (hc1 : takesExact (x1 (ix1 0)) (x1 (ix1 1))) (hc2 : ¬ takesWide (x1 (ix1 0)) (x1 (ix1 1))) (E : Set ℕ) (K : PUnit → sProp 𝕄) :
    iprop(held c arg2 arg3 arg4 arg5 arg6 arg7 arg8 arg9 arg10 arg11 arg12 arg13 arg14 x0 x1 x2 x3 x4 x5 x6 x7 x8 x9 st ∗ (held c arg2 arg3 arg4 arg5 arg6 arg7 arg8 arg9 arg10 arg11 arg12 arg13 arg14 x0 x1 x2 x3 x4 x5 x6 x7 x8 x9 (sweepExact x0 x2 x5 x6 st) -∗ K ⟨⟩))
      ⊢ wp frame (wpE (defs₀ (F := F)) Variants.none c none) E (cc0_gqa_decode_fp8 i arg2 harg2 arg3 harg3 arg4 harg4 arg5 harg5 arg6 harg6 arg7 harg7 arg8 harg8 arg9 harg9 arg10 harg10 arg11 harg11 arg12 harg12 arg13 harg13 arg14 harg14) K := by
  have e0 := readAt_word (F := F) harg3 x1 0 inb_S2_S1_0 (Shape.Idx.first (numel1_S1.symm ▸ Nat.one_pos))
  have e1 := readAt_word (F := F) harg3 x1 1 inb_S2_S1_1 (Shape.Idx.first (numel1_S1.symm ▸ Nat.one_pos))
  rw [← e0, ← e1] at hc1 hc2
  have E0 : sweepExact (words harg2 x0) (query arg4 harg4 x2) (arg7.view.read (Elt F) (harg7.unread x5)) (arg8.view.read (Elt F) (harg8.unread x6)) (loaded arg12 arg13 arg14 harg12 harg13 harg14 st) = sweepExact x0 x2 x5 x6 st := by
    rw [words_eq, loaded_eq, query_eq, harg7.read_unread, harg8.read_unread]
  simp only [cc0_gqa_decode_fp8_eq_skeleton]; unfold cc0_gqa_decode_fp8_skel
  simp only [k0_part28_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hfs0; obtain rfl := harg13.eq_unread hfs1; obtain rfl := harg14.eq_unread hfs2
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    exact hf7
  isplitl [H8]
  · iexists _; isplitr; swap; · iexact H8
    ipureintro
    exact hf8
  isplitl [H9]
  · iexists _; isplitr; swap; · iexact H9
    ipureintro
    exact hf9
  isplitl [HS0]
  · iexists _; isplitr; swap; · iexact HS0
    ipureintro
    refine (View.read_writes_full _ _ _ _ _).trans ?_
    exact (shapeCast_self _ shapeCasts_S32x128_S32x128).trans (congrArg St.m E0)
  isplitl [HS1]
  · iexists _; isplitr; swap; · iexact HS1
    ipureintro
    refine (View.read_writes_full _ _ _ _ _).trans ?_
    exact (shapeCast_self _ shapeCasts_S32x128_S32x128).trans (congrArg St.l E0)
  iexists _; isplitr; swap; · iexact HS2
  ipureintro
  refine (View.read_writes_full _ _ _ _ _).trans ?_
  exact (shapeCast_self _ shapeCasts_S32x256_S32x256).trans (congrArg St.acc E0)

end Cert.KernelIdeal.Run

end
-- ==== Proof.RunMidWide.lean ====
module

public import proofs.«01_k».proof.Proof.Point

/-! The body between the first and the last point of a batch, the codes widened and scaled first. -/

@[expose] public section

set_option maxRecDepth 16384

noncomputable section

namespace Cert.KernelIdeal.Run

open Cert.KernelIdeal Cert.KernelIdeal.Gen Cert.KernelIdeal.Sweep Cert.KernelIdeal.Blocks
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1600000 in
/-- Between the first and the last point of a batch the body takes the point's chunks, the codes widened and scaled first. -/
theorem run_mid_wide (c : Dev nD) (i : grid0.Coords) (arg2 : Memref sig .tc .smem S2 .f32) (harg2 : arg2.IsWhole) (arg3 : Memref sig .tc .smem S2 .i32) (harg3 : arg3.IsWhole) (arg4 : Memref sig .tc .vmem S1x16x128 .bf16) (harg4 : arg4.IsWhole) (arg5 : Memref sig .tc .vmem S1x1x128 .bf16) (harg5 : arg5.IsWhole) (arg6 : Memref sig .tc .vmem S1x1x128 .bf16) (harg6 : arg6.IsWhole) (arg7 : Memref sig .tc .vmem S1x16384x128 .fp8e4m3) (harg7 : arg7.IsWhole) (arg8 : Memref sig .tc .vmem S1x16384x128 .fp8e4m3) (harg8 : arg8.IsWhole)
  (arg9 : Memref sig .tc .vmem S1x16x128 .bf16) (harg9 : arg9.IsWhole) (arg10 : Memref sig .tc .vmem S1x1x128 .fp8e4m3) (harg10 : arg10.IsWhole) (arg11 : Memref sig .tc .vmem S1x1x128 .fp8e4m3) (harg11 : arg11.IsWhole) (arg12 : Memref sig .tc .vmem S32x128 .f32) (harg12 : arg12.IsWhole) (arg13 : Memref sig .tc .vmem S32x128 .f32) (harg13 : arg13.IsWhole) (arg14 : Memref sig .tc .vmem S32x256 .f32) (harg14 : arg14.IsWhole)
    (x0 : Vec F S2 .f32) (x1 : Vec F S2 .i32) (x2 : Vec F S1x16x128 .bf16) (x3 : Vec F S1x1x128 .bf16) (x4 : Vec F S1x1x128 .bf16) (x5 : Vec F S1x16384x128 .fp8e4m3) (x6 : Vec F S1x16384x128 .fp8e4m3) (x7 : Vec F S1x16x128 .bf16) (x8 : Vec F S1x1x128 .fp8e4m3) (x9 : Vec F S1x1x128 .fp8e4m3) (st : St F)
    (hc0 : ¬ k0_cond1 i = 1#1) (hc3 : ¬ k0_cond4 i = 1#1) (hc1 : ¬ takesExact (x1 (ix1 0)) (x1 (ix1 1))) (hc2 : takesWide (x1 (ix1 0)) (x1 (ix1 1))) (E : Set ℕ) (K : PUnit → sProp 𝕄) :
    iprop(held c arg2 arg3 arg4 arg5 arg6 arg7 arg8 arg9 arg10 arg11 arg12 arg13 arg14 x0 x1 x2 x3 x4 x5 x6 x7 x8 x9 st ∗ (held c arg2 arg3 arg4 arg5 arg6 arg7 arg8 arg9 arg10 arg11 arg12 arg13 arg14 x0 x1 x2 x3 x4 x5 x6 x7 x8 x9 (sweepWide x0 x2 x5 x6 st) -∗ K ⟨⟩))
      ⊢ wp frame (wpE (defs₀ (F := F)) Variants.none c none) E (cc0_gqa_decode_fp8 i arg2 harg2 arg3 harg3 arg4 harg4 arg5 harg5 arg6 harg6 arg7 harg7 arg8 harg8 arg9 harg9 arg10 harg10 arg11 harg11 arg12 harg12 arg13 harg13 arg14 harg14) K := by
  have e0 := readAt_word (F := F) harg3 x1 0 inb_S2_S1_0 (Shape.Idx.first (numel1_S1.symm ▸ Nat.one_pos))
  have e1 := readAt_word (F := F) harg3 x1 1 inb_S2_S1_1 (Shape.Idx.first (numel1_S1.symm ▸ Nat.one_pos))
  rw [← e0, ← e1] at hc1 hc2
  have E0 : sweepWide (words harg2 x0) (query arg4 harg4 x2) (arg7.view.read (Elt F) (harg7.unread x5)) (arg8.view.read (Elt F) (harg8.unread x6)) (loaded arg12 arg13 arg14 harg12 harg13 harg14 st) = sweepWide x0 x2 x5 x6 st := by
    rw [words_eq, loaded_eq, query_eq, harg7.read_unread, harg8.read_unread]
  simp only [cc0_gqa_decode_fp8_eq_skeleton]; unfold cc0_gqa_decode_fp8_skel
  simp only [k0_part28_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hfs0; obtain rfl := harg13.eq_unread hfs1; obtain rfl := harg14.eq_unread hfs2
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    exact hf7
  isplitl [H8]
  · iexists _; isplitr; swap; · iexact H8
    ipureintro
    exact hf8
  isplitl [H9]
  · iexists _; isplitr; swap; · iexact H9
    ipureintro
    exact hf9
  isplitl [HS0]
  · iexists _; isplitr; swap; · iexact HS0
    ipureintro
    refine (View.read_writes_full _ _ _ _ _).trans ?_
    exact (shapeCast_self _ shapeCasts_S32x128_S32x128).trans (congrArg St.m E0)
  isplitl [HS1]
  · iexists _; isplitr; swap; · iexact HS1
    ipureintro
    refine (View.read_writes_full _ _ _ _ _).trans ?_
    exact (shapeCast_self _ shapeCasts_S32x128_S32x128).trans (congrArg St.l E0)
  iexists _; isplitr; swap; · iexact HS2
  ipureintro
  refine (View.read_writes_full _ _ _ _ _).trans ?_
  unfold run_mid_wide.sl.r_111 k0_pay408
  exact (shapeCast_self _ shapeCasts_S32x256_S32x256).trans (congrArg St.acc E0)

end Cert.KernelIdeal.Run

end
-- ==== Proof.RunLastExact.lean ====
module

public import proofs.«01_k».proof.Proof.Point

/-! The body at the last point of a batch, the scales applied after the products. -/

@[expose] public section

set_option maxRecDepth 16384

noncomputable section

namespace Cert.KernelIdeal.Run

open Cert.KernelIdeal Cert.KernelIdeal.Gen Cert.KernelIdeal.Sweep Cert.KernelIdeal.Blocks
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1600000 in
/-- At the last point of a batch the body takes the point's chunks and writes the result, the scales applied after the products. -/
theorem run_last_exact (c : Dev nD) (i : grid0.Coords) (arg2 : Memref sig .tc .smem S2 .f32) (harg2 : arg2.IsWhole) (arg3 : Memref sig .tc .smem S2 .i32) (harg3 : arg3.IsWhole) (arg4 : Memref sig .tc .vmem S1x16x128 .bf16) (harg4 : arg4.IsWhole) (arg5 : Memref sig .tc .vmem S1x1x128 .bf16) (harg5 : arg5.IsWhole) (arg6 : Memref sig .tc .vmem S1x1x128 .bf16) (harg6 : arg6.IsWhole) (arg7 : Memref sig .tc .vmem S1x16384x128 .fp8e4m3) (harg7 : arg7.IsWhole) (arg8 : Memref sig .tc .vmem S1x16384x128 .fp8e4m3) (harg8 : arg8.IsWhole)
  (arg9 : Memref sig .tc .vmem S1x16x128 .bf16) (harg9 : arg9.IsWhole) (arg10 : Memref sig .tc .vmem S1x1x128 .fp8e4m3) (harg10 : arg10.IsWhole) (arg11 : Memref sig .tc .vmem S1x1x128 .fp8e4m3) (harg11 : arg11.IsWhole) (arg12 : Memref sig .tc .vmem S32x128 .f32) (harg12 : arg12.IsWhole) (arg13 : Memref sig .tc .vmem S32x128 .f32) (harg13 : arg13.IsWhole) (arg14 : Memref sig .tc .vmem S32x256 .f32) (harg14 : arg14.IsWhole)
    (x0 : Vec F S2 .f32) (x1 : Vec F S2 .i32) (x2 : Vec F S1x16x128 .bf16) (x3 : Vec F S1x1x128 .bf16) (x4 : Vec F S1x1x128 .bf16) (x5 : Vec F S1x16384x128 .fp8e4m3) (x6 : Vec F S1x16384x128 .fp8e4m3) (x7 : Vec F S1x16x128 .bf16) (x8 : Vec F S1x1x128 .fp8e4m3) (x9 : Vec F S1x1x128 .fp8e4m3) (st : St F)
    (hc0 : ¬ k0_cond1 i = 1#1) (hc3 : k0_cond4 i = 1#1) (hc1 : takesExact (x1 (ix1 0)) (x1 (ix1 1))) (hc2 : ¬ takesWide (x1 (ix1 0)) (x1 (ix1 1))) (E : Set ℕ) (K : PUnit → sProp 𝕄) :
    iprop(held c arg2 arg3 arg4 arg5 arg6 arg7 arg8 arg9 arg10 arg11 arg12 arg13 arg14 x0 x1 x2 x3 x4 x5 x6 x7 x8 x9 st ∗ (held c arg2 arg3 arg4 arg5 arg6 arg7 arg8 arg9 arg10 arg11 arg12 arg13 arg14 x0 x1 x2 x3 x4 x5 x6 (merged (sweepExact x0 x2 x5 x6 st)) x8 x9 (sweepExact x0 x2 x5 x6 st) -∗ K ⟨⟩))
      ⊢ wp frame (wpE (defs₀ (F := F)) Variants.none c none) E (cc0_gqa_decode_fp8 i arg2 harg2 arg3 harg3 arg4 harg4 arg5 harg5 arg6 harg6 arg7 harg7 arg8 harg8 arg9 harg9 arg10 harg10 arg11 harg11 arg12 harg12 arg13 harg13 arg14 harg14) K := by
  have e0 := readAt_word (F := F) harg3 x1 0 inb_S2_S1_0 (Shape.Idx.first (numel1_S1.symm ▸ Nat.one_pos))
  have e1 := readAt_word (F := F) harg3 x1 1 inb_S2_S1_1 (Shape.Idx.first (numel1_S1.symm ▸ Nat.one_pos))
  rw [← e0, ← e1] at hc1 hc2
  have E0 : sweepExact (words harg2 x0) (query arg4 harg4 x2) (arg7.view.read (Elt F) (harg7.unread x5)) (arg8.view.read (Elt F) (harg8.unread x6)) (loaded arg12 arg13 arg14 harg12 harg13 harg14 st) = sweepExact x0 x2 x5 x6 st := by
    rw [words_eq, loaded_eq, query_eq, harg7.read_unread, harg8.read_unread]
  simp only [cc0_gqa_decode_fp8_eq_skeleton]; unfold cc0_gqa_decode_fp8_skel
  simp only [k0_part28_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hfs0; obtain rfl := harg13.eq_unread hfs1; obtain rfl := harg14.eq_unread hfs2
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    refine (View.read_writes_full _ _ _ _ _).trans ?_
    refine merged_of (readCov_part arg12.view _ _ _ ?_) (readCov_part arg12.view _ _ _ ?_) (readCov_part arg13.view _ _ _ ?_) (readCov_part arg13.view _ _ _ ?_) (readCov_part arg14.view _ _ _ ?_) (readCov_part arg14.view _ _ _ ?_)
    · exact (shapeCast_self _ shapeCasts_S32x128_S32x128).trans (congrArg St.m E0)
    · exact (shapeCast_self _ shapeCasts_S32x128_S32x128).trans (congrArg St.m E0)
    · exact (shapeCast_self _ shapeCasts_S32x128_S32x128).trans (congrArg St.l E0)
    · exact (shapeCast_self _ shapeCasts_S32x128_S32x128).trans (congrArg St.l E0)
    · exact (shapeCast_self _ shapeCasts_S32x256_S32x256).trans (congrArg St.acc E0)
    · exact (shapeCast_self _ shapeCasts_S32x256_S32x256).trans (congrArg St.acc E0)
  isplitl [H8]
  · iexists _; isplitr; swap; · iexact H8
    ipureintro
    exact hf8
  isplitl [H9]
  · iexists _; isplitr; swap; · iexact H9
    ipureintro
    exact hf9
  isplitl [HS0]
  · iexists _; isplitr; swap; · iexact HS0
    ipureintro
    refine (View.read_writes_full _ _ _ _ _).trans ?_
    exact (shapeCast_self _ shapeCasts_S32x128_S32x128).trans (congrArg St.m E0)
  isplitl [HS1]
  · iexists _; isplitr; swap; · iexact HS1
    ipureintro
    refine (View.read_writes_full _ _ _ _ _).trans ?_
    exact (shapeCast_self _ shapeCasts_S32x128_S32x128).trans (congrArg St.l E0)
  iexists _; isplitr; swap; · iexact HS2
  ipureintro
  refine (View.read_writes_full _ _ _ _ _).trans ?_
  exact (shapeCast_self _ shapeCasts_S32x256_S32x256).trans (congrArg St.acc E0)

end Cert.KernelIdeal.Run

end
-- ==== Proof.RunLastWide.lean ====
module

public import proofs.«01_k».proof.Proof.Point

/-! The body at the last point of a batch, the codes widened and scaled first. -/

@[expose] public section

set_option maxRecDepth 16384

noncomputable section

namespace Cert.KernelIdeal.Run

open Cert.KernelIdeal Cert.KernelIdeal.Gen Cert.KernelIdeal.Sweep Cert.KernelIdeal.Blocks
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1600000 in
/-- At the last point of a batch the body takes the point's chunks and writes the result, the codes widened and scaled first. -/
theorem run_last_wide (c : Dev nD) (i : grid0.Coords) (arg2 : Memref sig .tc .smem S2 .f32) (harg2 : arg2.IsWhole) (arg3 : Memref sig .tc .smem S2 .i32) (harg3 : arg3.IsWhole) (arg4 : Memref sig .tc .vmem S1x16x128 .bf16) (harg4 : arg4.IsWhole) (arg5 : Memref sig .tc .vmem S1x1x128 .bf16) (harg5 : arg5.IsWhole) (arg6 : Memref sig .tc .vmem S1x1x128 .bf16) (harg6 : arg6.IsWhole) (arg7 : Memref sig .tc .vmem S1x16384x128 .fp8e4m3) (harg7 : arg7.IsWhole) (arg8 : Memref sig .tc .vmem S1x16384x128 .fp8e4m3) (harg8 : arg8.IsWhole)
  (arg9 : Memref sig .tc .vmem S1x16x128 .bf16) (harg9 : arg9.IsWhole) (arg10 : Memref sig .tc .vmem S1x1x128 .fp8e4m3) (harg10 : arg10.IsWhole) (arg11 : Memref sig .tc .vmem S1x1x128 .fp8e4m3) (harg11 : arg11.IsWhole) (arg12 : Memref sig .tc .vmem S32x128 .f32) (harg12 : arg12.IsWhole) (arg13 : Memref sig .tc .vmem S32x128 .f32) (harg13 : arg13.IsWhole) (arg14 : Memref sig .tc .vmem S32x256 .f32) (harg14 : arg14.IsWhole)
    (x0 : Vec F S2 .f32) (x1 : Vec F S2 .i32) (x2 : Vec F S1x16x128 .bf16) (x3 : Vec F S1x1x128 .bf16) (x4 : Vec F S1x1x128 .bf16) (x5 : Vec F S1x16384x128 .fp8e4m3) (x6 : Vec F S1x16384x128 .fp8e4m3) (x7 : Vec F S1x16x128 .bf16) (x8 : Vec F S1x1x128 .fp8e4m3) (x9 : Vec F S1x1x128 .fp8e4m3) (st : St F)
    (hc0 : ¬ k0_cond1 i = 1#1) (hc3 : k0_cond4 i = 1#1) (hc1 : ¬ takesExact (x1 (ix1 0)) (x1 (ix1 1))) (hc2 : takesWide (x1 (ix1 0)) (x1 (ix1 1))) (E : Set ℕ) (K : PUnit → sProp 𝕄) :
    iprop(held c arg2 arg3 arg4 arg5 arg6 arg7 arg8 arg9 arg10 arg11 arg12 arg13 arg14 x0 x1 x2 x3 x4 x5 x6 x7 x8 x9 st ∗ (held c arg2 arg3 arg4 arg5 arg6 arg7 arg8 arg9 arg10 arg11 arg12 arg13 arg14 x0 x1 x2 x3 x4 x5 x6 (merged (sweepWide x0 x2 x5 x6 st)) x8 x9 (sweepWide x0 x2 x5 x6 st) -∗ K ⟨⟩))
      ⊢ wp frame (wpE (defs₀ (F := F)) Variants.none c none) E (cc0_gqa_decode_fp8 i arg2 harg2 arg3 harg3 arg4 harg4 arg5 harg5 arg6 harg6 arg7 harg7 arg8 harg8 arg9 harg9 arg10 harg10 arg11 harg11 arg12 harg12 arg13 harg13 arg14 harg14) K := by
  have e0 := readAt_word (F := F) harg3 x1 0 inb_S2_S1_0 (Shape.Idx.first (numel1_S1.symm ▸ Nat.one_pos))
  have e1 := readAt_word (F := F) harg3 x1 1 inb_S2_S1_1 (Shape.Idx.first (numel1_S1.symm ▸ Nat.one_pos))
  rw [← e0, ← e1] at hc1 hc2
  have E0 : sweepWide (words harg2 x0) (query arg4 harg4 x2) (arg7.view.read (Elt F) (harg7.unread x5)) (arg8.view.read (Elt F) (harg8.unread x6)) (loaded arg12 arg13 arg14 harg12 harg13 harg14 st) = sweepWide x0 x2 x5 x6 st := by
    rw [words_eq, loaded_eq, query_eq, harg7.read_unread, harg8.read_unread]
  simp only [cc0_gqa_decode_fp8_eq_skeleton]; unfold cc0_gqa_decode_fp8_skel
  simp only [k0_part28_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hfs0; obtain rfl := harg13.eq_unread hfs1; obtain rfl := harg14.eq_unread hfs2
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    refine (View.read_writes_full _ _ _ _ _).trans ?_
    refine merged_of (readCov_part arg12.view _ _ _ ?_) (readCov_part arg12.view _ _ _ ?_) (readCov_part arg13.view _ _ _ ?_) (readCov_part arg13.view _ _ _ ?_) (readCov_part arg14.view _ _ _ ?_) (readCov_part arg14.view _ _ _ ?_)
    · exact (shapeCast_self _ shapeCasts_S32x128_S32x128).trans (congrArg St.m E0)
    · exact (shapeCast_self _ shapeCasts_S32x128_S32x128).trans (congrArg St.m E0)
    · exact (shapeCast_self _ shapeCasts_S32x128_S32x128).trans (congrArg St.l E0)
    · exact (shapeCast_self _ shapeCasts_S32x128_S32x128).trans (congrArg St.l E0)
    · unfold run_last_wide.sl.r_111 k0_pay408
      exact (shapeCast_self _ shapeCasts_S32x256_S32x256).trans (congrArg St.acc E0)
    · unfold run_last_wide.sl.r_111 k0_pay408
      exact (shapeCast_self _ shapeCasts_S32x256_S32x256).trans (congrArg St.acc E0)
  isplitl [H8]
  · iexists _; isplitr; swap; · iexact H8
    ipureintro
    exact hf8
  isplitl [H9]
  · iexists _; isplitr; swap; · iexact H9
    ipureintro
    exact hf9
  isplitl [HS0]
  · iexists _; isplitr; swap; · iexact HS0
    ipureintro
    refine (View.read_writes_full _ _ _ _ _).trans ?_
    exact (shapeCast_self _ shapeCasts_S32x128_S32x128).trans (congrArg St.m E0)
  isplitl [HS1]
  · iexists _; isplitr; swap; · iexact HS1
    ipureintro
    refine (View.read_writes_full _ _ _ _ _).trans ?_
    exact (shapeCast_self _ shapeCasts_S32x128_S32x128).trans (congrArg St.l E0)
  iexists _; isplitr; swap; · iexact HS2
  ipureintro
  refine (View.read_writes_full _ _ _ _ _).trans ?_
  unfold run_last_wide.sl.r_111 k0_pay408
  exact (shapeCast_self _ shapeCasts_S32x256_S32x256).trans (congrArg St.acc E0)

end Cert.KernelIdeal.Run

end
-- ==== Proof.State.lean ====
module

public import proofs.«01_k».proof.Proof.RunFirstExact
public import proofs.«01_k».proof.Proof.RunFirstWide
public import proofs.«01_k».proof.Proof.RunMidExact
public import proofs.«01_k».proof.Proof.RunMidWide
public import proofs.«01_k».proof.Proof.RunLastExact
public import proofs.«01_k».proof.Proof.RunLastWide
public import proofs.«01_k».proof.Proof.Gen.KernelIdeal.Frame

/-! What the scratch holds after every grid point, and what every point leaves in the windows: the body's
triple at a generic point, the run of the whole grid, and the frame. -/

@[expose] public section

set_option maxRecDepth 16384

noncomputable section

namespace Cert.KernelIdeal.State

open Cert.KernelIdeal Cert.KernelIdeal.Gen Cert.KernelIdeal.Sweep Cert.KernelIdeal.Blocks Cert.KernelIdeal.Run
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The body starts a batch at the points that are multiples of four. -/
theorem starts_iff : ∀ t : Fin cfg0.N, k0_cond1 (grid0.coords t) = 1#1 ↔ t.val % 4 = 0 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [k0_cond1, e0, e1]
    word_cmp
   : ∀ t : Fin grid0.N, k0_cond1 (grid0.coords t) = 1#1 ↔ t.val % 4 = 0)

/-- The body ends a batch at the points that are three above a multiple of four. -/
theorem ends_iff : ∀ t : Fin cfg0.N, k0_cond4 (grid0.coords t) = 1#1 ↔ t.val % 4 = 3 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [k0_cond4, e0, e1]
    word_cmp
   : ∀ t : Fin grid0.N, k0_cond4 (grid0.coords t) = 1#1 ↔ t.val % 4 = 3)

/-- The attention window is left alone except where a batch ends. -/
theorem idle7 (t : Fin cfg0.N) : cfg0.idle 7 (grid0.coords t) = !decide (t.val % 4 = 3) := by
  show (!(k0_cond4 (grid0.coords t) == 1#1)) = _
  congr 1; rw [Bool.eq_iff_iff, beq_iff_eq, decide_eq_true_iff]; exact ends_iff t
/-- The key-code window is left alone except where a batch starts. -/
theorem idle8 (t : Fin cfg0.N) : cfg0.idle 8 (grid0.coords t) = !decide (t.val % 4 = 0) := by
  show (!(k0_cond1 (grid0.coords t) == 1#1)) = _
  congr 1; rw [Bool.eq_iff_iff, beq_iff_eq, decide_eq_true_iff]; exact starts_iff t
/-- The value-code window is left alone except where a batch starts. -/
theorem idle9 (t : Fin cfg0.N) : cfg0.idle 9 (grid0.coords t) = !decide (t.val % 4 = 0) := by
  show (!(k0_cond1 (grid0.coords t) == 1#1)) = _
  congr 1; rw [Bool.eq_iff_iff, beq_iff_eq, decide_eq_true_iff]; exact starts_iff t

/-! ## What the scratch holds -/

/-- One point's chunks taken into the state `st`, by the branch the two scale words choose. -/
def sweep (x0 : Vec F S2 .f32) (x1 : Vec F S2 .i32) (x2 : Vec F S1x16x128 .bf16) (x5 x6 : Vec F S1x16384x128 .fp8e4m3) (st : St F) : St F :=
  if takesExact (x1 (ix1 0)) (x1 (ix1 1)) then sweepExact x0 x2 x5 x6 st else sweepWide x0 x2 x5 x6 st

/-- The two scales as point `t` finds them. -/
abbrev b0 (c : Dev nD) (t : Fin cfg0.N) : Vec F S2 .f32 := iblk m c 0 t
/-- The two scales' words as point `t` finds them. -/
abbrev b1 (c : Dev nD) (t : Fin cfg0.N) : Vec F S2 .i32 := iblk m c 1 t
/-- The batch's query rows as point `t` finds them. -/
abbrev b2 (c : Dev nD) (t : Fin cfg0.N) : Vec F S1x16x128 .bf16 := iblk m c 2 t
/-- The batch's new key as point `t` finds it. -/
abbrev b3 (c : Dev nD) (t : Fin cfg0.N) : Vec F S1x1x128 .bf16 := iblk m c 3 t
/-- The batch's new value as point `t` finds it. -/
abbrev b4 (c : Dev nD) (t : Fin cfg0.N) : Vec F S1x1x128 .bf16 := iblk m c 4 t
/-- The point's key codes. -/
abbrev b5 (c : Dev nD) (t : Fin cfg0.N) : Vec F S1x16384x128 .fp8e4m3 := iblk m c 5 t
/-- The point's value codes. -/
abbrev b6 (c : Dev nD) (t : Fin cfg0.N) : Vec F S1x16384x128 .fp8e4m3 := iblk m c 6 t

/-- The state a batch starts from, at point `t`. -/
def startAt (c : Dev nD) (t : Fin cfg0.N) : St F := start (b0 m c t) (b1 m c t) (b2 m c t) (b3 m c t) (b4 m c t)
/-- Point `t`'s chunks taken into the state `st`. -/
def sweepAt (c : Dev nD) (t : Fin cfg0.N) (st : St F) : St F := sweep (b0 m c t) (b1 m c t) (b2 m c t) (b5 m c t) (b6 m c t) st

/-- A state carried along `N` points, four to a batch: a batch's first point takes `f` into that batch's start `s`,
every other point into what the point before left. -/
def carried {N : ℕ} {S : Type} (f : Fin N → S → S) (s : Fin N → S) : (n : ℕ) → n < N → S
  | 0, hn => f ⟨0, hn⟩ (s ⟨0, hn⟩)
  | n + 1, hn => f ⟨n + 1, hn⟩ (if (n + 1) % 4 = 0 then s ⟨n + 1, hn⟩ else carried f s n (Nat.lt_of_succ_lt hn))

/-- At a batch's first point the carried state is that point's step from the batch's start. -/
theorem carried_start {N : ℕ} {S : Type} (f : Fin N → S → S) (s : Fin N → S) (n : ℕ) (hn : n < N) (h : n % 4 = 0) :
    carried f s n hn = f ⟨n, hn⟩ (s ⟨n, hn⟩) := by
  cases n with
  | zero => rfl
  | succ n => unfold carried; rw [if_pos h]

/-- At every other point the carried state is that point's step from the state of the point before. -/
theorem carried_step {N : ℕ} {S : Type} (f : Fin N → S → S) (s : Fin N → S) (n : ℕ) (hn : n < N) (h : n % 4 ≠ 0) :
    carried f s n hn = f ⟨n, hn⟩ (carried f s (n - 1) (Nat.lt_of_le_of_lt (Nat.sub_le _ _) hn)) := by
  cases n with
  | zero => exact absurd rfl h
  | succ n => rw [carried, if_neg h]; rfl

/-- What the scratch holds after point `n`. -/
def stateAt (c : Dev nD) (n : ℕ) (hn : n < cfg0.N) : St F := carried (sweepAt m c) (startAt m c) n hn

/-- At a batch's first point the state is that point's chunks taken into the starting state. -/
theorem stateAt_start (c : Dev nD) (t : Fin cfg0.N) (h : t.val % 4 = 0) :
    stateAt m c t.val t.isLt = sweepAt m c t (startAt m c t) := carried_start _ _ t.val t.isLt h

/-- At every other point the state is that point's chunks taken into the state of the point before. -/
theorem stateAt_step (c : Dev nD) (t : Fin cfg0.N) (h : t.val % 4 ≠ 0) :
    stateAt m c t.val t.isLt = sweepAt m c t (stateAt m c (t.val - 1) (Nat.lt_of_le_of_lt (Nat.sub_le _ _) t.isLt)) :=
  carried_step _ _ t.val t.isLt h

/-! ## The staging buffers -/

abbrev ms0_0 (t : Fin cfg0.N) : Memref sig .tc .smem S2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S2 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x16384x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x16384x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x16x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x128 .fp8e4m3 := win0_9.stage (cfg0.slots t 9)
abbrev hs0_9 (t : Fin cfg0.N) : (ms0_9 t).IsWhole := hstage0_9 ((cfg0.slots t 9).cast nbuf0_9)
abbrev scM0_0 : Memref sig .tc .vmem S32x128 .f32 := Memref.whole cc0_scratch0
abbrev scM0_1 : Memref sig .tc .vmem S32x128 .f32 := Memref.whole cc0_scratch1
abbrev scM0_2 : Memref sig .tc .vmem S32x256 .f32 := Memref.whole cc0_scratch2

/-- Everything the body of point `t` works on: the inputs at their blocks, the outputs at `x7`, `x8`, `x9`, the
scratch at `st`. -/
def heldAt (c : Dev nD) (t : Fin cfg0.N) (x7 : Vec F S1x16x128 .bf16) (x8 x9 : Vec F S1x1x128 .fp8e4m3) (st : St F) : sProp 𝕄 :=
  held c (ms0_0 t) (ms0_1 t) (ms0_2 t) (ms0_3 t) (ms0_4 t) (ms0_5 t) (ms0_6 t) (ms0_7 t) (ms0_8 t) (ms0_9 t) scM0_0 scM0_1 scM0_2
    (b0 m c t) (b1 m c t) (b2 m c t) (b3 m c t) (b4 m c t) (b5 m c t) (b6 m c t) x7 x8 x9 st

/-- The point that starts a batch writes the two codes and leaves the scratch one point's chunks past the start. -/
theorem body_first (c : Dev nD) (t : Fin cfg0.N) (h : t.val % 4 = 0) (x7 : Vec F S1x16x128 .bf16) (x8 x9 : Vec F S1x1x128 .fp8e4m3) (st : St F) (K : PUnit → sProp 𝕄) :
    iprop(heldAt m c t x7 x8 x9 st ∗ (heldAt m c t x7 (codesK (b1 m c t) (b3 m c t)) (codesV (b1 m c t) (b4 m c t)) (sweepAt m c t (startAt m c t)) -∗ K ⟨⟩))
      ⊢ wp frame (wpE (defs₀ (F := F)) Variants.none c none) Set.univ (bodyAt0 t) K := by
  unfold heldAt sweepAt sweep startAt bodyAt0
  have hc3 : ¬ k0_cond4 (grid0.coords t) = 1#1 := fun h' => by have := (ends_iff t).mp h'; omega
  by_cases hx : takesExact (b1 m c t (ix1 0)) (b1 m c t (ix1 1))
  · rw [if_pos hx]
    exact run_first_exact c _ _ _ _ _ _ _ _ _ _ _ _ _ _ _ _ _ _ _ _ _ _ (Memref.isWhole_whole _) _ (Memref.isWhole_whole _) _ (Memref.isWhole_whole _) _ _ _ _ _ _ _ _ _ _ _ ((starts_iff t).mpr h) hc3 hx (fun h' => (takesWide_iff _ _).mp h' hx) _ K
  · rw [if_neg hx]
    exact run_first_wide c _ _ _ _ _ _ _ _ _ _ _ _ _ _ _ _ _ _ _ _ _ _ (Memref.isWhole_whole _) _ (Memref.isWhole_whole _) _ (Memref.isWhole_whole _) _ _ _ _ _ _ _ _ _ _ _ ((starts_iff t).mpr h) hc3 hx ((takesWide_iff _ _).mpr hx) _ K

/-- A point inside a batch leaves the outputs alone and takes its chunks into the scratch. -/
theorem body_mid (c : Dev nD) (t : Fin cfg0.N) (h0 : t.val % 4 ≠ 0) (h3 : t.val % 4 ≠ 3) (x7 : Vec F S1x16x128 .bf16) (x8 x9 : Vec F S1x1x128 .fp8e4m3) (st : St F) (K : PUnit → sProp 𝕄) :
    iprop(heldAt m c t x7 x8 x9 st ∗ (heldAt m c t x7 x8 x9 (sweepAt m c t st) -∗ K ⟨⟩))
      ⊢ wp frame (wpE (defs₀ (F := F)) Variants.none c none) Set.univ (bodyAt0 t) K := by
  unfold heldAt sweepAt sweep bodyAt0
  have hc0 : ¬ k0_cond1 (grid0.coords t) = 1#1 := fun h' => h0 ((starts_iff t).mp h')
  have hc3 : ¬ k0_cond4 (grid0.coords t) = 1#1 := fun h' => h3 ((ends_iff t).mp h')
  by_cases hx : takesExact (b1 m c t (ix1 0)) (b1 m c t (ix1 1))
  · rw [if_pos hx]
    exact run_mid_exact c _ _ _ _ _ _ _ _ _ _ _ _ _ _ _ _ _ _ _ _ _ _ (Memref.isWhole_whole _) _ (Memref.isWhole_whole _) _ (Memref.isWhole_whole _) _ _ _ _ _ _ _ _ _ _ _ hc0 hc3 hx (fun h' => (takesWide_iff _ _).mp h' hx) _ K
  · rw [if_neg hx]
    exact run_mid_wide c _ _ _ _ _ _ _ _ _ _ _ _ _ _ _ _ _ _ _ _ _ _ (Memref.isWhole_whole _) _ (Memref.isWhole_whole _) _ (Memref.isWhole_whole _) _ _ _ _ _ _ _ _ _ _ _ hc0 hc3 hx ((takesWide_iff _ _).mpr hx) _ K

/-- The point that ends a batch takes its chunks into the scratch and writes the merged attention. -/
theorem body_last (c : Dev nD) (t : Fin cfg0.N) (h : t.val % 4 = 3) (x7 : Vec F S1x16x128 .bf16) (x8 x9 : Vec F S1x1x128 .fp8e4m3) (st : St F) (K : PUnit → sProp 𝕄) :
    iprop(heldAt m c t x7 x8 x9 st ∗ (heldAt m c t (merged (sweepAt m c t st)) x8 x9 (sweepAt m c t st) -∗ K ⟨⟩))
      ⊢ wp frame (wpE (defs₀ (F := F)) Variants.none c none) Set.univ (bodyAt0 t) K := by
  unfold heldAt sweepAt sweep bodyAt0
  have hc0 : ¬ k0_cond1 (grid0.coords t) = 1#1 := fun h' => by have := (starts_iff t).mp h'; omega
  by_cases hx : takesExact (b1 m c t (ix1 0)) (b1 m c t (ix1 1))
  · rw [if_pos hx]
    exact run_last_exact c _ _ _ _ _ _ _ _ _ _ _ _ _ _ _ _ _ _ _ _ _ _ (Memref.isWhole_whole _) _ (Memref.isWhole_whole _) _ (Memref.isWhole_whole _) _ _ _ _ _ _ _ _ _ _ _ hc0 ((ends_iff t).mpr h) hx (fun h' => (takesWide_iff _ _).mp h' hx) _ K
  · rw [if_neg hx]
    exact run_last_wide c _ _ _ _ _ _ _ _ _ _ _ _ _ _ _ _ _ _ _ _ _ _ (Memref.isWhole_whole _) _ (Memref.isWhole_whole _) _ (Memref.isWhole_whole _) _ _ _ _ _ _ _ _ _ _ _ hc0 ((ends_iff t).mpr h) hx ((takesWide_iff _ _).mpr hx) _ K

end Cert.KernelIdeal.State

end
-- ==== Proof.Body.lean ====
module

public import proofs.«01_k».proof.Proof.State
public import Idealize.ShloMosaic.Lib.Claim

/-! What every point leaves in the windows, the body's triple at a generic point, the run of the whole grid, and the
frame. -/

@[expose] public section

set_option maxRecDepth 16384

noncomputable section

namespace Cert.KernelIdeal.Body

open Cert.KernelIdeal Cert.KernelIdeal.Gen Cert.KernelIdeal.Sweep Cert.KernelIdeal.Blocks Cert.KernelIdeal.Run Cert.KernelIdeal.State
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant between points -/

/-- What the launch hands over: the scratch at anything and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The invariant before position `n`: at the first the scratch at anything, later at the state of the point before. -/
def PhiS (c : Dev nD) : (n : ℕ) → n ≤ cfg0.N → sProp 𝕄
  | 0, _ => Pipeline.ΦA spec0 c
  | n + 1, hn => iprop(iprop(owns (c : Thread nD τ) scM0_0 fullShare (stateAt m c n hn).m ∗ owns (c : Thread nD τ) scM0_1 fullShare (stateAt m c n hn).l ∗ owns (c : Thread nD τ) scM0_2 fullShare (stateAt m c n hn).acc) ∗ (∃ r, prngReg c r))

/-- Before the first point the invariant is what the launch hands over. -/
theorem PhiS_zero (c : Dev nD) (n : ℕ) (h : n ≤ cfg0.N) (hz : n = 0) : PhiS m c n h = Pipeline.ΦA spec0 c := by
  subst hz; rfl

/-- After point `n` the scratch is at that point's state. -/
theorem PhiS_succ (c : Dev nD) (n : ℕ) (hn : n < cfg0.N) :
    PhiS m c (n + 1) hn = iprop(iprop(owns (c : Thread nD τ) scM0_0 fullShare (stateAt m c n hn).m ∗ owns (c : Thread nD τ) scM0_1 fullShare (stateAt m c n hn).l ∗ owns (c : Thread nD τ) scM0_2 fullShare (stateAt m c n hn).acc) ∗ (∃ r, prngReg c r)) := rfl

/-- Before a point that is not the first the scratch is at the state of the point before. -/
theorem PhiS_pos (c : Dev nD) (n : ℕ) (h : n ≤ cfg0.N) (hz : n ≠ 0) :
    PhiS m c n h = iprop(iprop(owns (c : Thread nD τ) scM0_0 fullShare (stateAt m c (n - 1) (by omega)).m ∗ owns (c : Thread nD τ) scM0_1 fullShare (stateAt m c (n - 1) (by omega)).l ∗ owns (c : Thread nD τ) scM0_2 fullShare (stateAt m c (n - 1) (by omega)).acc) ∗ (∃ r, prngReg c r)) := by
  cases n with
  | zero => exact absurd rfl hz
  | succ n => rfl

/-- At any point the invariant holds the scratch at some state: the state of the point before, unless it is the first. -/
theorem PhiS_some (c : Dev nD) (n : ℕ) (h : n ≤ cfg0.N) :
    PhiS m c n h ⊢ iprop(∃ st : St F, iprop(owns (c : Thread nD τ) scM0_0 fullShare st.m ∗ owns (c : Thread nD τ) scM0_1 fullShare st.l ∗ owns (c : Thread nD τ) scM0_2 fullShare st.acc) ∗ (∃ r, prngReg c r)) := by
  by_cases hz : n = 0
  · rw [PhiS_zero m c n h hz, PhiA0_eq]
    iintro ⟨⟨⟨%a, H0⟩, ⟨%b, H1⟩, ⟨%d, H2⟩⟩, Hg⟩
    iexists (⟨a, b, d⟩ : St F)
    isplitl [H0 H1 H2]
    · isplitl [H0]; · iexact H0
      isplitl [H1]; · iexact H1
      iexact H2
    iexact Hg
  · rw [PhiS_pos m c n h hz]
    iintro ⟨H, Hg⟩
    iexists (stateAt m c (n - 1) (by omega))
    isplitl [H]; · iexact H
    iexact Hg

/-! ## What every point leaves in the windows -/

/-- The attention a batch's state gives, at point `t`. -/
def leaves7 (c : Dev nD) (t : Fin cfg0.N) : Vec F S1x16x128 .bf16 := merged (stateAt m c t.val t.isLt)
/-- The first point of point `t`'s batch. -/
def firstOf (t : Fin cfg0.N) : Fin cfg0.N := ⟨t.val - t.val % 4, Nat.lt_of_le_of_lt (Nat.sub_le _ _) t.isLt⟩
/-- The new key's codes of point `t`'s batch. -/
def leaves8 (c : Dev nD) (t : Fin cfg0.N) : Vec F S1x1x128 .fp8e4m3 := codesK (b1 m c (firstOf t)) (b3 m c (firstOf t))
/-- The new value's codes of point `t`'s batch. -/
def leaves9 (c : Dev nD) (t : Fin cfg0.N) : Vec F S1x1x128 .fp8e4m3 := codesV (b1 m c (firstOf t)) (b4 m c (firstOf t))

/-- A batch's first point is its own first. -/
theorem firstOf_start (t : Fin cfg0.N) (h : t.val % 4 = 0) : firstOf t = t := Fin.ext (by show t.val - t.val % 4 = t.val; omega)
/-- A later point of a batch has the first point of the one before it. -/
theorem firstOf_step (t : Fin cfg0.N) (h : t.val % 4 ≠ 0) : firstOf t = firstOf ⟨t.val - 1, Nat.lt_of_le_of_lt (Nat.sub_le _ _) t.isLt⟩ :=
  Fin.ext (by show t.val - t.val % 4 = (t.val - 1) - (t.val - 1) % 4; omega)

/-- The pipeline's data on core `c`: the arrays as the region finds them, the inputs' blocks left in place, the outputs
as named above, the scratch carried from point to point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => leaves7 m c t
    | ⟨8, _⟩ => leaves8 m c t
    | ⟨9, _⟩ => leaves9 m c t
  Φ t := PhiS m c t.val (Nat.le_of_lt_succ t.isLt)
  q _ := fullShare
  owed _ := 0

/-- The arrays are as the region finds them. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = leaves7 m c t := by dsimp only [dats]
theorem after0_8 (c : Dev nD) (t : Fin cfg0.N) : (dats m 0 c).after 8 t = leaves8 m c t := by dsimp only [dats]
theorem after0_9 (c : Dev nD) (t : Fin cfg0.N) : (dats m 0 c).after 9 t = leaves9 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- An uncut output window written at a batch's first point only, whose contents do not change within a batch, still holds
them at every later point of the batch. -/
theorem before_later {cfg : Cfg sig Λ₀} {c : Dev nD} (dat : Dat τ (Elt F) Unit ℕ (UR sig nD τ) ℕ cfg c) (w : Fin cfg.W) (hw : (cfg.win w).isOut = true)
    (hidle : ∀ t : Fin cfg.N, cfg.idle w (cfg.grid.coords t) = !decide (t.val % 4 = 0))
    (hflush : ∀ t : Fin cfg.N, (cfg.win w).flush t = true ↔ t.val % 4 = 3)
    (hclip : ∀ (i : cfg.grid.Coords) a, (cfg.win w).clip i a = none)
    (hafter : ∀ t : Fin cfg.N, t.val % 4 ≠ 0 → dat.after w t = dat.after w ⟨t.val - 1, Nat.lt_of_le_of_lt (Nat.sub_le _ _) t.isLt⟩)
    (d) : ∀ (n : ℕ) (hn : n < cfg.N), n % 4 ≠ 0 → dat.before w ⟨n, hn⟩ d = dat.after w ⟨n, hn⟩
  | 0, _, h => absurd rfl h
  | n + 1, hn, h => by
    have hn' : n < cfg.N := Nat.lt_of_succ_lt hn
    have hfl : (cfg.win w).flush ⟨n, hn'⟩ = false := Bool.eq_false_iff.mpr fun h' => by have := (hflush _).mp h'; dsimp only at this; omega
    have e : dat.before w ⟨n + 1, hn⟩ d = dat.left w ⟨n, hn'⟩ d :=
      (dat.before_of_pos w ⟨n + 1, hn⟩ (Nat.succ_ne_zero n) ((cfg.win w).fetch_out hw _) d).trans
        (if_neg (by show ¬ (cfg.win w).flush ⟨n, hn'⟩ = true; rw [hfl]; exact Bool.false_ne_true))
    have ha : dat.after w ⟨n + 1, hn⟩ = dat.after w ⟨n, hn'⟩ := hafter ⟨n + 1, hn⟩ h
    rw [e, ha]
    have hi := hidle ⟨n, hn'⟩
    by_cases h0 : n % 4 = 0
    · rw [decide_eq_true h0] at hi
      unfold Dat.left Dat.kept
      rw [hi]
      show (cfg.win w).fill _ d _ = _
      rw [Pipeline.fill_of_clip_none w _ (hclip _) d (dat.after w _), Window.fill_cut]
    · rw [decide_eq_false h0] at hi
      unfold Dat.left
      rw [hi]
      exact before_later dat w hw hidle hflush hclip hafter d n hn' h0

/-- At a later point of a batch the key-code window still holds the batch's codes. -/
theorem before0_8 (c : Dev nD) (t : Fin cfg0.N) (h : t.val % 4 ≠ 0) (d) : (dats m 0 c).before 8 t d = leaves8 m c t :=
  (before_later (dats m 0 c) 8 rfl idle8 flush0_8 (fun _ _ => rfl)
    (fun t h => by rw [after0_8, after0_8]; unfold leaves8; rw [firstOf_step t h]) d t.val t.isLt h).trans (after0_8 m c t)
/-- At a later point of a batch the value-code window still holds the batch's codes. -/
theorem before0_9 (c : Dev nD) (t : Fin cfg0.N) (h : t.val % 4 ≠ 0) (d) : (dats m 0 c).before 9 t d = leaves9 m c t :=
  (before_later (dats m 0 c) 9 rfl idle9 flush0_9 (fun _ _ => rfl)
    (fun t h => by rw [after0_9, after0_9]; unfold leaves9; rw [firstOf_step t h]) d t.val t.isLt h).trans (after0_9 m c t)

/-! ## The body's triple at a generic point -/

theorem leaves0_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (ms0_5 t) fullShare (iblk m c 5 t) := by
  unfold Dat.leavesExact; rw [show cfg0.idle 5 (grid0.coords t) = false from rfl, after0_5]
theorem leaves0_6 (c : Dev nD) (t : Fin cfg0.N) : (dats m 0 c).leavesExact 6 t = owns (c : Thread nD τ) (ms0_6 t) fullShare (iblk m c 6 t) := by
  unfold Dat.leavesExact; rw [show cfg0.idle 6 (grid0.coords t) = false from rfl, after0_6]
/-- Where the attention window is written. -/
theorem live0_7 (c : Dev nD) (t : Fin cfg0.N) (h : t.val % 4 = 3) : (dats m 0 c).leavesExact 7 t = owns (c : Thread nD τ) (ms0_7 t) fullShare (leaves7 m c t) := by
  have hi := idle7 t
  rw [decide_eq_true h] at hi
  unfold Dat.leavesExact; rw [hi]
  show owns _ _ _ ((dats m 0 c).after 7 t) = _
  rw [after0_7]
/-- Where the attention window is neither written nor sent back. -/
theorem idle0_7 (c : Dev nD) (t : Fin cfg0.N) (h : t.val % 4 ≠ 3) (h3 : t.val % 4 ≠ 3) : (dats m 0 c).leavesExact 7 t = iprop(∃ d, owns (c : Thread nD τ) (ms0_7 t) fullShare ((dats m 0 c).before 7 t d)) := by
  have hi := idle7 t
  rw [decide_eq_false h] at hi
  exact (dats m 0 c).leavesExact_idle 7 t hi (Bool.eq_false_iff.mpr fun h' => h3 ((flush0_7 t).mp h'))
/-- Where the key-code window is written. -/
theorem live0_8 (c : Dev nD) (t : Fin cfg0.N) (h : t.val % 4 = 0) : (dats m 0 c).leavesExact 8 t = owns (c : Thread nD τ) (ms0_8 t) fullShare (leaves8 m c t) := by
  have hi := idle8 t
  rw [decide_eq_true h] at hi
  unfold Dat.leavesExact; rw [hi]
  show owns _ _ _ ((dats m 0 c).after 8 t) = _
  rw [after0_8]
/-- Where the key-code window is neither written nor sent back. -/
theorem idle0_8 (c : Dev nD) (t : Fin cfg0.N) (h : t.val % 4 ≠ 0) (h3 : t.val % 4 ≠ 3) : (dats m 0 c).leavesExact 8 t = iprop(∃ d, owns (c : Thread nD τ) (ms0_8 t) fullShare ((dats m 0 c).before 8 t d)) := by
  have hi := idle8 t
  rw [decide_eq_false h] at hi
  exact (dats m 0 c).leavesExact_idle 8 t hi (Bool.eq_false_iff.mpr fun h' => h3 ((flush0_8 t).mp h'))
/-- Where the key-code window is sent back unwritten. -/
theorem sent0_8 (c : Dev nD) (t : Fin cfg0.N) (h : t.val % 4 = 3) : (dats m 0 c).leavesExact 8 t = owns (c : Thread nD τ) (ms0_8 t) fullShare (leaves8 m c t) := by
  have hi := idle8 t
  rw [decide_eq_false (by omega)] at hi
  unfold Dat.leavesExact; rw [hi, (flush0_8 t).mpr h]
  show owns _ _ _ ((dats m 0 c).after 8 t) = _
  rw [after0_8]
/-- Where the value-code window is written. -/
theorem live0_9 (c : Dev nD) (t : Fin cfg0.N) (h : t.val % 4 = 0) : (dats m 0 c).leavesExact 9 t = owns (c : Thread nD τ) (ms0_9 t) fullShare (leaves9 m c t) := by
  have hi := idle9 t
  rw [decide_eq_true h] at hi
  unfold Dat.leavesExact; rw [hi]
  show owns _ _ _ ((dats m 0 c).after 9 t) = _
  rw [after0_9]
/-- Where the value-code window is neither written nor sent back. -/
theorem idle0_9 (c : Dev nD) (t : Fin cfg0.N) (h : t.val % 4 ≠ 0) (h3 : t.val % 4 ≠ 3) : (dats m 0 c).leavesExact 9 t = iprop(∃ d, owns (c : Thread nD τ) (ms0_9 t) fullShare ((dats m 0 c).before 9 t d)) := by
  have hi := idle9 t
  rw [decide_eq_false h] at hi
  exact (dats m 0 c).leavesExact_idle 9 t hi (Bool.eq_false_iff.mpr fun h' => h3 ((flush0_9 t).mp h'))
/-- Where the value-code window is sent back unwritten. -/
theorem sent0_9 (c : Dev nD) (t : Fin cfg0.N) (h : t.val % 4 = 3) : (dats m 0 c).leavesExact 9 t = owns (c : Thread nD τ) (ms0_9 t) fullShare (leaves9 m c t) := by
  have hi := idle9 t
  rw [decide_eq_false (by omega)] at hi
  unfold Dat.leavesExact; rw [hi, (flush0_9 t).mpr h]
  show owns _ _ _ ((dats m 0 c).after 9 t) = _
  rw [after0_9]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 1600000 in
/-- The body at any point: it starts a batch, is inside one, or ends one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, leaves0_0, leaves0_1, leaves0_2, leaves0_3, leaves0_4, leaves0_5, leaves0_6]
  rw [show (dats m 0 c).owesAt () t.succ = (dats m 0 c).owesAt () t.castSucc from rfl]
  rw [show (dats m 0 c).Φ t.succ = PhiS m c (t.val + 1) t.isLt from rfl, PhiS_succ, PhiS_castSucc m c t]
  have hN : t.val < 64 := lt_of_lt_of_eq t.isLt (show cfg0.N = 64 from N_0)
  by_cases h0 : t.val % 4 = 0
  · rw [idle0_7 m c t (by omega) (by omega), live0_8 m c t h0, live0_9 m c t h0, stateAt_start m c t h0]
    unfold leaves8 leaves9
    rw [firstOf_start t h0]
    refine (BIClass.sep_mono (PhiS_some m c _ _) (Idealize.SL.BI.Entails.refl _)).trans ?_
    iintro ⟨⟨%st, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_first m c t h0 _ _ _ st _)
    unfold heldAt held
    isplitl [H0 H1 H2 H3 H4 H5 H6 H7 H8 H9 HS0 HS1 HS2]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iexact HS2
    iintro ⟨H0, H1, H2, H3, H4, H5, H6, H7, H8, H9, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    isplitl [H8]; · iexact H8
    iexact H9
  have hz : t.val ≠ 0 := fun h' => h0 (by rw [h'])
  rw [PhiS_pos m c _ _ hz, stateAt_step m c t h0]
  by_cases h3 : t.val % 4 = 3
  · simp only [before0_8 m c t h0, before0_9 m c t h0]
    rw [live0_7 m c t h3, sent0_8 m c t h3, sent0_9 m c t h3]
    unfold leaves7
    rw [stateAt_step m c t h0]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_last m c t h3 _ _ _ (stateAt m c (t.val - 1) (by omega)) _)
    unfold heldAt held
    isplitl [H0 H1 H2 H3 H4 H5 H6 H7 H8 H9 HS0 HS1 HS2]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iexact HS2
    iintro ⟨H0, H1, H2, H3, H4, H5, H6, H7, H8, H9, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [idle0_7 m c t h3 h3, idle0_8 m c t h0 h3, idle0_9 m c t h0 h3]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_mid m c t h0 h3 _ _ _ (stateAt m c (t.val - 1) (by omega)) _)
    unfold heldAt held
    isplitl [H0 H1 H2 H3 H4 H5 H6 H7 H8 H9 HS0 HS1 HS2]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iexact HS2
    iintro ⟨H0, H1, H2, H3, H4, H5, H6, H7, H8, H9, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    isplitl [H8]; · iexists d8; iexact H8
    iexists d9; iexact H9

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

/-- The body's triple at every point, as the grid's run asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back at anything. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-! ## The run and the frame -/

-- the run's implicit arguments are found by unfolding plain definitions in a type
set_option backward.isDefEq.respectTransparency.types false in
/-- Every execution ends with the arrays at what the points left in them and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every execution ends with the arrays at what the points left in them. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every execution ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.Same.lean ====
module

public import proofs.«01_k».proof.Proof.Body
public import proofs.«01_k».proof.Proof.Gen.Kernel
public import Idealize.ShloMosaic.Lib.Tactic

/-! The kernel's frame. The kernel and its idealization are one program over any floats, printed twice, since no operation was
rewritten; so the frame proved of the one holds of the other. -/

@[expose] public section

namespace Cert.Same

open Idealize.ShloMosaic Idealize.ShloMosaic.Tactic Idealize.SL.Sem

variable (F : FTy → Type) [FloatOps F]

/-- The kernel's frame: every execution ends, with the arguments unchanged and every counter at zero. -/
def KernelFrame : Prop :=
  ∀ (m : (ℓ : Loc Cert.Kernel.nD Cert.Kernel.τ Cert.Kernel.sig) → Buf (Elt F) ℓ) (ρ : Dev Cert.Kernel.nD → PrngReg),
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

/-- The same of its idealization. -/
def IdealFrame : Prop :=
  ∀ (m : (ℓ : Loc Cert.KernelIdeal.nD Cert.KernelIdeal.τ Cert.KernelIdeal.sig) → Buf (Elt F) ℓ) (ρ : Dev Cert.KernelIdeal.nD → PrngReg),
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

/-- The two say the same. -/
theorem frames_eq : KernelFrame F = IdealFrame F := by sl_kernel_rfl

/-- The kernel's frame. -/
theorem frame : KernelFrame F := (frames_eq F).mpr fun m ρ => Cert.KernelIdeal.Body.frame m ρ

end Cert.Same

end
-- ==== Proof.Online.lean ====
module

public import Idealize.ShloMosaic.PureOps.Ideal
public import Idealize.ShloMosaic.PureOps.Ideal.Laws

/-! Streaming softmax over the extended reals: weights against a running maximum, and how they are rescaled when it grows. -/

@[expose] public section

noncomputable section

namespace Cert.Online

open Idealize.ShloMosaic

/-- The weight of a score `x` against the maximum `m`. -/
def wt (x m : EReal) : EReal := Ideal.exp (x - m)

/-- A weight is not negative. -/
theorem wt_nonneg (x m : EReal) : 0 ≤ wt x m := by
  unfold wt
  induction x - m using EReal.rec with
  | bot => simp
  | top => simp
  | coe r => rw [Ideal.exp_coe]; exact_mod_cast (Real.exp_pos r).le

/-- A score that is at most the maximum has a finite weight. -/
theorem wt_ne_top {x m : EReal} (h : x ≤ m) : wt x m ≠ ⊤ := by
  unfold wt
  induction m using EReal.rec with
  | bot => obtain rfl := le_bot_iff.mp h; simp
  | top => simp [EReal.sub_top]
  | coe r =>
    induction x using EReal.rec with
    | bot => simp
    | top => exact absurd h (by simp)
    | coe y => rw [← EReal.coe_sub, Ideal.exp_coe]; exact EReal.coe_ne_top _

/-- Weights chain: against `m`, then `m` against `M`, is against `M`. -/
theorem wt_mul {x m M : EReal} (h : x ≤ m) (h' : m ≤ M) : wt x m * wt m M = wt x M := by
  unfold wt
  induction m using EReal.rec with
  | bot => obtain rfl := le_bot_iff.mp h; simp
  | top => obtain rfl := top_le_iff.mp h'; simp [EReal.sub_top]
  | coe r =>
    induction x using EReal.rec with
    | bot => simp
    | top => exact absurd h (by simp)
    | coe y =>
      induction M using EReal.rec with
      | bot => exact absurd h' (by simp)
      | top => simp [EReal.sub_top]
      | coe z =>
        rw [← EReal.coe_sub, ← EReal.coe_sub, ← EReal.coe_sub, Ideal.exp_coe, Ideal.exp_coe, Ideal.exp_coe, ← EReal.coe_mul,
          ← Real.exp_add]
        congr 2; ring

/-- A factor that is not negative and finite goes into a sum. -/
theorem add_mul' (a b : EReal) {c : EReal} (h : 0 ≤ c) (h' : c ≠ ⊤) : (a + b) * c = a * c + b * c :=
  EReal.right_distrib_of_nonneg_of_ne_top h h' a b

/-- A factor that is not negative and finite goes into a finite sum. -/
theorem sum_mul' {ι : Type*} (t : Finset ι) (f : ι → EReal) {c : EReal} (h : 0 ≤ c) (h' : c ≠ ⊤) :
    (∑ i ∈ t, f i) * c = ∑ i ∈ t, f i * c := by
  classical
  induction t using Finset.induction_on with
  | empty => simp
  | insert a t ha ih => rw [Finset.sum_insert ha, Finset.sum_insert ha, add_mul' _ _ h h', ih]

/-- What a running maximum `m`, a running sum `l` and an accumulator `a` are after `n` chunks of `w` tokens, chunk `c`
those from `o c` on. `s` and `v` are the tokens' scores and values, `t` picks the tokens of a chunk that the sum counts, and
the start is `s0`, `l0`, `v0`: `m` is the maximum, and against any larger maximum the sums are those of the weights. -/
structure Inv (w : ℕ) (o : ℕ → ℕ) (t : Finset ℕ) (s v : ℕ → EReal) (s0 l0 v0 : EReal) (n : ℕ) (m l a : EReal) : Prop where
  max : ∀ M, m ≤ M ↔ s0 ≤ M ∧ ∀ c < n, ∀ i < w, s (o c + i) ≤ M
  sum : ∀ M, m ≤ M → l * wt m M = l0 * wt s0 M + ∑ c ∈ Finset.range n, ∑ i ∈ t, wt (s (o c + i)) M
  acc : ∀ M, m ≤ M → a * wt m M = v0 * wt s0 M + ∑ c ∈ Finset.range n, ∑ i ∈ Finset.range w, wt (s (o c + i)) M * v (o c + i)

variable {w : ℕ} {o : ℕ → ℕ} {t : Finset ℕ} {s v : ℕ → EReal} {s0 l0 v0 : EReal} {n : ℕ} {m l a : EReal}

/-- The start. -/
theorem Inv.start (w : ℕ) (o : ℕ → ℕ) (t : Finset ℕ) (s v : ℕ → EReal) (s0 l0 v0 : EReal) : Inv w o t s v s0 l0 v0 0 s0 l0 v0 where
  max M := by simp
  sum M _ := by simp
  acc M _ := by simp

/-- One more chunk. -/
theorem Inv.step (I : Inv w o t s v s0 l0 v0 n m l a) (ht : ∀ i ∈ t, i < w) {m' : EReal}
    (hm : ∀ M, m' ≤ M ↔ m ≤ M ∧ ∀ i < w, s (o n + i) ≤ M) :
    Inv w o t s v s0 l0 v0 (n + 1) m' (l * wt m m' + ∑ i ∈ t, wt (s (o n + i)) m')
      (a * wt m m' + ∑ i ∈ Finset.range w, wt (s (o n + i)) m' * v (o n + i)) := by
  obtain ⟨hmm, hs⟩ := (hm m').mp le_rfl
  refine ⟨fun M => ?_, fun M hM => ?_, fun M hM => ?_⟩
  · rw [hm, I.max]
    constructor
    · rintro ⟨⟨h0, hc⟩, h⟩
      refine ⟨h0, fun c hc' i hi => ?_⟩
      rcases Nat.lt_succ_iff_lt_or_eq.mp hc' with h' | rfl
      · exact hc c h' i hi
      · exact h i hi
    · rintro ⟨h0, h⟩
      exact ⟨⟨h0, fun c hc => h c (by omega)⟩, h n (by omega)⟩
  · rw [add_mul' _ _ (wt_nonneg _ _) (wt_ne_top hM), mul_assoc, wt_mul hmm hM, I.sum M (hmm.trans hM),
      sum_mul' _ _ (wt_nonneg _ _) (wt_ne_top hM), Finset.sum_range_succ, add_assoc]
    congr 2
    exact Finset.sum_congr rfl fun i hi => wt_mul (hs i (ht i hi)) hM
  · rw [add_mul' _ _ (wt_nonneg _ _) (wt_ne_top hM), mul_assoc, wt_mul hmm hM, I.acc M (hmm.trans hM),
      sum_mul' _ _ (wt_nonneg _ _) (wt_ne_top hM), Finset.sum_range_succ, add_assoc]
    congr 2
    refine Finset.sum_congr rfl fun i hi => ?_
    rw [mul_right_comm, wt_mul (hs i (Finset.mem_range.mp hi)) hM]

end Cert.Online

end
-- ==== Proof.Parts.lean ====
module

public import proofs.«01_k».proof.Proof.Sweep
public import proofs.«01_k».proof.Proof.Point
public import proofs.«01_k».proof.Proof.Online
public import Idealize.ShloMosaic.PureOps.Ideal.Laws
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.Pipeline.Value

/-! The operations of one chunk over the extended reals, read at an index. -/

@[expose] public section

noncomputable section

namespace Cert.KernelIdeal.Parts

open Cert.KernelIdeal Cert.KernelIdeal.Gen Cert.KernelIdeal.Sweep Cert.Online
open Idealize.ShloMosaic Idealize.ShloMosaic.ValueIdx
open scoped BigOperators

/-- Row `h` of the first sixteen. -/
abbrev top (h : Fin 16) : Fin 32 := Fin.castAdd 16 h
/-- Row `h` of the last sixteen. -/
abbrev low (h : Fin 16) : Fin 32 := Fin.natAdd 16 h
/-- Column `d` of the first 128. -/
abbrev fst (d : Fin 128) : Fin 256 := Fin.castAdd 128 d
/-- Column `d` of the last 128. -/
abbrev snd (d : Fin 128) : Fin 256 := Fin.natAdd 128 d

/-- A pair of arrays side by side, at a column of the first. -/
theorem pair_left {α : Type} {n a b c : ℕ} (x : (⟨2, ![n, a]⟩ : Shape).Idx → α) (y : (⟨2, ![n, b]⟩ : Shape).Idx → α)
    (h : Shape.Concatenates [⟨2, ![n, a]⟩, ⟨2, ![n, b]⟩] ⟨2, ![n, c]⟩ 1) (i : Fin n) (j : Fin c) (k : Fin a) (hk : k.val = j.val) :
    concatenate ⟨2, ![n, c]⟩ 1 [⟨⟨2, ![n, a]⟩, x⟩, ⟨⟨2, ![n, b]⟩, y⟩] h (ix2 i j) = x (ix2 i k) :=
  concatenate_pair_apply_left _ x y h _ rfl _ (fun e => match e with
    | ⟨0, _⟩ => rfl
    | ⟨1, _⟩ => hk)

/-- A pair of arrays side by side, at a column of the second. -/
theorem pair_right {α : Type} {n a b c : ℕ} (x : (⟨2, ![n, a]⟩ : Shape).Idx → α) (y : (⟨2, ![n, b]⟩ : Shape).Idx → α)
    (h : Shape.Concatenates [⟨2, ![n, a]⟩, ⟨2, ![n, b]⟩] ⟨2, ![n, c]⟩ 1) (i : Fin n) (j : Fin c) (k : Fin b) (hk : k.val + a = j.val) :
    concatenate ⟨2, ![n, c]⟩ 1 [⟨⟨2, ![n, a]⟩, x⟩, ⟨⟨2, ![n, b]⟩, y⟩] h (ix2 i j) = y (ix2 i k) :=
  concatenate_pair_apply_right _ x y h _ rfl rfl _ (fun e he => match e with
    | ⟨0, _⟩ => rfl
    | ⟨1, _⟩ => absurd rfl he) hk

/-- Two arrays one above the other, at a row of the first. -/
theorem above_left {α : Type} {n a b c : ℕ} (x : (⟨2, ![a, n]⟩ : Shape).Idx → α) (y : (⟨2, ![b, n]⟩ : Shape).Idx → α)
    (h : Shape.Concatenates [⟨2, ![a, n]⟩, ⟨2, ![b, n]⟩] ⟨2, ![c, n]⟩ 0) (j : Fin c) (i : Fin n) (k : Fin a) (hk : k.val = j.val) :
    concatenate ⟨2, ![c, n]⟩ 0 [⟨⟨2, ![a, n]⟩, x⟩, ⟨⟨2, ![b, n]⟩, y⟩] h (ix2 j i) = x (ix2 k i) :=
  concatenate_pair_apply_left _ x y h _ rfl _ (fun e => match e with
    | ⟨0, _⟩ => hk
    | ⟨1, _⟩ => rfl)

/-- Two arrays one above the other, at a row of the second. -/
theorem above_right {α : Type} {n a b c : ℕ} (x : (⟨2, ![a, n]⟩ : Shape).Idx → α) (y : (⟨2, ![b, n]⟩ : Shape).Idx → α)
    (h : Shape.Concatenates [⟨2, ![a, n]⟩, ⟨2, ![b, n]⟩] ⟨2, ![c, n]⟩ 0) (j : Fin c) (i : Fin n) (k : Fin b) (hk : k.val + a = j.val) :
    concatenate ⟨2, ![c, n]⟩ 0 [⟨⟨2, ![a, n]⟩, x⟩, ⟨⟨2, ![b, n]⟩, y⟩] h (ix2 j i) = y (ix2 k i) :=
  concatenate_pair_apply_right _ x y h _ rfl rfl _ (fun e he => match e with
    | ⟨0, _⟩ => absurd rfl he
    | ⟨1, _⟩ => rfl) hk

/-- A chunk's scores at a row and a token. -/
theorem scores_apply {e : FTy} (w : EReal) (q : FVec Ideal S32x256 .bf16) (k : FVec Ideal S1024x256 e) (r : Fin 32) (i : Fin 1024) :
    scores (F := Ideal) w q k (ix2 r i) = (∑ x : Fin 256, q (ix2 r x) * k (ix2 i x)) * w := by
  have h : FloatOps.matmul (F := Ideal) dot_S32x256_S1024x256_S32x1024_1_1_0_0_n_n none q k (constant S32x1024 .f32 0x00000000#32) (ix2 r i)
      = constant (F := Ideal) S32x1024 .f32 0x00000000#32 (ix2 r i) + ∑ x : Fin 256, q (ix2 r x) * k (ix2 i x) :=
    Ideal.matmul_transposedRhs_apply (M := 32) (K := 256) (N := 1024) none q k _ r i
  unfold scores
  rw [mulf_apply, broadcast_apply]
  refine congrArg (· * w) (h.trans ?_)
  rw [constant_apply, Ideal.ofBits_zero_f32, zero_add]

/-- The two halves of a token's row. -/
theorem side_fst (a b : Vec Ideal S1x1024x128 .fp8e4m3) (i : Fin 1024) (d : Fin 128) :
    side (F := Ideal) a b (ix2 i (fst d)) = a (ix3 0 i d) := by
  unfold side
  rw [pair_left _ _ _ i (fst d) d rfl]
  exact shapeCast_1ab_ab_apply a _ i d

@[inherit_doc side_fst] theorem side_snd (a b : Vec Ideal S1x1024x128 .fp8e4m3) (i : Fin 1024) (d : Fin 128) :
    side (F := Ideal) a b (ix2 i (snd d)) = b (ix3 0 i d) := by
  unfold side
  rw [pair_right _ _ _ i (snd d) d (Nat.add_comm _ _)]
  exact shapeCast_1ab_ab_apply b _ i d

/-- The query rows: the first sixteen have the query on the first 128 columns and zeros after, the last sixteen the other way round. -/
theorem query_top_fst (x : Vec Ideal S1x16x128 .bf16) (h : Fin 16) (d : Fin 128) :
    k0_pay415 (F := Ideal) x (ix2 (top h) (fst d)) = x (ix3 0 h d) := by
  unfold k0_pay415
  refine (above_left _ _ _ (top h) (fst d) h rfl).trans ((pair_left _ _ _ h (fst d) d rfl).trans ?_)
  exact shapeCast_1ab_ab_apply x _ h d

@[inherit_doc query_top_fst] theorem query_top_snd (x : Vec Ideal S1x16x128 .bf16) (h : Fin 16) (d : Fin 128) :
    k0_pay415 (F := Ideal) x (ix2 (top h) (snd d)) = 0 := by
  unfold k0_pay415
  refine (above_left _ _ _ (top h) (snd d) h rfl).trans ((pair_right _ _ _ h (snd d) d (Nat.add_comm _ _)).trans ?_)
  exact Ideal.ofBits_zero_bf16

@[inherit_doc query_top_fst] theorem query_low_fst (x : Vec Ideal S1x16x128 .bf16) (h : Fin 16) (d : Fin 128) :
    k0_pay415 (F := Ideal) x (ix2 (low h) (fst d)) = 0 := by
  unfold k0_pay415
  refine (above_right _ _ _ (low h) (fst d) h (Nat.add_comm _ _)).trans ((pair_left _ _ _ h (fst d) d rfl).trans ?_)
  exact Ideal.ofBits_zero_bf16

@[inherit_doc query_top_fst] theorem query_low_snd (x : Vec Ideal S1x16x128 .bf16) (h : Fin 16) (d : Fin 128) :
    k0_pay415 (F := Ideal) x (ix2 (low h) (snd d)) = x (ix3 0 h d) := by
  unfold k0_pay415
  refine (above_right _ _ _ (low h) (snd d) h (Nat.add_comm _ _)).trans ((pair_right _ _ _ h (snd d) d (Nat.add_comm _ _)).trans ?_)
  exact shapeCast_1ab_ab_apply x _ h d

/-- The product of a query row of the first sixteen with a token's row of 256 meets the first 128 columns alone. -/
theorem dot_top (x : Vec Ideal S1x16x128 .bf16) (f : Fin 256 → EReal) (h : Fin 16) :
    ∑ c : Fin 256, k0_pay415 (F := Ideal) x (ix2 (top h) c) * f c = ∑ d : Fin 128, x (ix3 0 h d) * f (fst d) := by
  refine (Fin.sum_univ_add (a := 128) (b := 128) _).trans ?_
  rw [Finset.sum_congr rfl (fun d _ => congrArg (· * f (fst d)) (query_top_fst x h d)),
    Finset.sum_congr rfl (fun d _ => congrArg (· * f (snd d)) (query_top_snd x h d))]
  simp

/-- The product of a query row of the last sixteen with a token's row of 256 meets the last 128 columns alone. -/
theorem dot_low (x : Vec Ideal S1x16x128 .bf16) (f : Fin 256 → EReal) (h : Fin 16) :
    ∑ c : Fin 256, k0_pay415 (F := Ideal) x (ix2 (low h) c) * f c = ∑ d : Fin 128, x (ix3 0 h d) * f (snd d) := by
  refine (Fin.sum_univ_add (a := 128) (b := 128) _).trans ?_
  rw [Finset.sum_congr rfl (fun d _ => congrArg (· * f (fst d)) (query_low_fst x h d)),
    Finset.sum_congr rfl (fun d _ => congrArg (· * f (snd d)) (query_low_snd x h d))]
  simp

/-- Token `j` of group `g`. -/
abbrev tok (g : Fin 8) (j : Fin 128) : Fin 1024 := ⟨128 * g.val + j.val, by omega⟩

section Cols
variable (s : FVec Ideal S32x1024 .f32) (r : Fin 32) (j : Fin 128)
theorem col0_apply : col0 s (ix2 r j) = s (ix2 r (tok 0 j)) := slice2_axis1_apply 0 s _ r j _ rfl
theorem col1_apply : col1 s (ix2 r j) = s (ix2 r (tok 1 j)) := slice2_axis1_apply 128 s _ r j _ rfl
theorem col2_apply : col2 s (ix2 r j) = s (ix2 r (tok 2 j)) := slice2_axis1_apply 256 s _ r j _ rfl
theorem col3_apply : col3 s (ix2 r j) = s (ix2 r (tok 3 j)) := slice2_axis1_apply 384 s _ r j _ rfl
theorem col4_apply : col4 s (ix2 r j) = s (ix2 r (tok 4 j)) := slice2_axis1_apply 512 s _ r j _ rfl
theorem col5_apply : col5 s (ix2 r j) = s (ix2 r (tok 5 j)) := slice2_axis1_apply 640 s _ r j _ rfl
theorem col6_apply : col6 s (ix2 r j) = s (ix2 r (tok 6 j)) := slice2_axis1_apply 768 s _ r j _ rfl
theorem col7_apply : col7 s (ix2 r j) = s (ix2 r (tok 7 j)) := slice2_axis1_apply 896 s _ r j _ rfl
end Cols

/-- The pattern of minus infinity. -/
theorem negInf : Ideal.ofBits .f32 0xFF800000#32 = ⊥ := by
  simp [Ideal.ofBits, Ideal.ieee]

/-- A bound on the maximum of a chunk's scores in a lane. -/
theorem laneMax_le (s : FVec Ideal S32x1024 .f32) (r : Fin 32) (j : Fin 128) (M : EReal) :
    laneMax s (ix2 r j) ≤ M ↔ ∀ g : Fin 8, s (ix2 r (tok g j)) ≤ M := by
  unfold laneMax
  simp only [maximumf_apply, max_le_iff, col0_apply, col1_apply, col2_apply, col3_apply, col4_apply, col5_apply, col6_apply, col7_apply]
  constructor
  · rintro ⟨⟨⟨⟨⟨⟨⟨h0, h1⟩, h2⟩, h3⟩, h4⟩, h5⟩, h6⟩, h7⟩ g
    fin_cases g <;> assumption
  · intro h
    exact ⟨⟨⟨⟨⟨⟨⟨h 0, h 1⟩, h 2⟩, h 3⟩, h 4⟩, h 5⟩, h 6⟩, h 7⟩

/-- A bound on a fold of `max` over all of a finite type. -/
theorem fold_max_le {n : ℕ} (f : Fin n → EReal) (b M : EReal) :
    (Finset.univ : Finset (Fin n)).fold max b f ≤ M ↔ b ≤ M ∧ ∀ i, f i ≤ M := by
  rw [Finset.fold_max_le]; simp

/-- A bound on the new running maximum. -/
theorem nextM_le (m : FVec Ideal S32x128 .f32) (s : FVec Ideal S32x1024 .f32) (r : Fin 32) (j : Fin 128) (M : EReal) :
    nextM (F := Ideal) m s (ix2 r j) ≤ M ↔ m (ix2 r j) ≤ M ∧ ∀ i : Fin 1024, s (ix2 r i) ≤ M := by
  have e : broadcastTo S32x128 (shapeCast S32x1 (multiReduction (F := Ideal) .maximumf [1] S32 (laneMax s) 0xFF800000#32 reduces_S32x128_S32 (.inl rfl) rfl) shapeCasts_S32_S32x1) broadcasts_S32x1_S32x128 (ix2 r j)
      = (Finset.univ : Finset (Fin 128)).fold max (Ideal.ofBits .f32 0xFF800000#32) (fun k => laneMax s (ix2 r k)) := by
    refine (broadcastTo_apply _ _ _ (ix2 r 0) (fun a => match a with
      | ⟨0, _⟩ => rfl
      | ⟨1, _⟩ => rfl)).trans ?_
    refine (shapeCast_a_a1_apply _ _ r 0).trans ?_
    refine (Ideal.multiReduction_maximumf_single _ _ _ _ _ (ix1 r)).trans ?_
    refine congrArg (Finset.fold max (Ideal.ofBits .f32 0xFF800000#32) · Finset.univ) (funext fun k => ?_)
    refine congrArg (laneMax s) (funext fun a => ?_)
    match a with
    | ⟨0, _⟩ => rfl
    | ⟨1, _⟩ => rfl
  unfold nextM
  rw [maximumf_apply, max_le_iff, e, fold_max_le, negInf]
  simp only [bot_le, true_and, laneMax_le]
  refine and_congr_right fun _ => ⟨fun h i => ?_, fun h j g => h _⟩
  have := h ⟨i.val % 128, Nat.mod_lt _ (by omega)⟩ ⟨i.val / 128, by omega⟩
  have hi : tok ⟨i.val / 128, by omega⟩ ⟨i.val % 128, Nat.mod_lt _ (by omega)⟩ = i := Fin.ext (by show 128 * (i.val / 128) + i.val % 128 = i.val; omega)
  rwa [hi] at this

/-- A running maximum that is the same in every lane stays so. -/
theorem nextM_uniform (m : FVec Ideal S32x128 .f32) (s : FVec Ideal S32x1024 .f32) (r : Fin 32) (h : ∀ j, m (ix2 r j) = m (ix2 r 0)) (j : Fin 128) :
    nextM (F := Ideal) m s (ix2 r j) = nextM (F := Ideal) m s (ix2 r 0) :=
  eq_of_forall_ge_iff fun M => by rw [nextM_le, nextM_le, h j]

/-- A weight at an index. -/
theorem weight_apply (c m : FVec Ideal S32x128 .f32) (i : S32x128.Idx) : weight (F := Ideal) c m i = wt (c i) (m i) := rfl

/-- The new running sum: the old one rescaled, and the weights of the lane's eight tokens. -/
theorem nextL_apply (m l m' : FVec Ideal S32x128 .f32) (s : FVec Ideal S32x1024 .f32) (r : Fin 32) (j : Fin 128) :
    nextL (F := Ideal) m l m' s (ix2 r j) = l (ix2 r j) * wt (m (ix2 r j)) (m' (ix2 r j)) + ∑ g : Fin 8, wt (s (ix2 r (tok g j))) (m' (ix2 r j)) := by
  unfold nextL
  simp only [addf_apply, mulf_apply, weight_apply, col0_apply, col1_apply, col2_apply, col3_apply, col4_apply, col5_apply, col6_apply, col7_apply,
    Fin.sum_univ_eight]

/-- One of eight arrays of 128 columns side by side, at one of its columns. -/
theorem group_apply {α : Type} (x : Fin 8 → S32x128.Idx → α) (h) (r : Fin 32) (g : Fin 8) (j : Fin 128) :
    concatenate S32x1024 1 [⟨S32x128, x 0⟩, ⟨S32x128, x 1⟩, ⟨S32x128, x 2⟩, ⟨S32x128, x 3⟩, ⟨S32x128, x 4⟩, ⟨S32x128, x 5⟩, ⟨S32x128, x 6⟩, ⟨S32x128, x 7⟩] h (ix2 r (tok g j))
      = x g (ix2 r j) := by
  refine concatenate_apply_piece (t := S32x1024) (1 : Fin 2) _ h (ix2 r (tok g j)) g.val (by simpa using g.isLt) S32x128 (x g) ?_ rfl (128 * g.val) ?_ (ix2 r j) (fun b hb => ?_) ?_
  · fin_cases g <;> rfl
  · fin_cases g <;> rfl
  · match b with
    | ⟨0, _⟩ => rfl
    | ⟨1, _⟩ => exact absurd rfl hb
  · rfl

/-- The weights of a chunk at a row and a token. -/
theorem weights_apply (s : FVec Ideal S32x1024 .f32) (m' : FVec Ideal S32x128 .f32) (r : Fin 32) (g : Fin 8) (j : Fin 128) :
    weights (F := Ideal) s m' (ix2 r (tok g j)) = wt (s (ix2 r (tok g j))) (m' (ix2 r j)) := by
  unfold weights
  refine (group_apply (fun g => match g with
    | 0 => truncf .bf16 (weight (col0 s) m') bitsLt_bf16_f32 | 1 => truncf .bf16 (weight (col1 s) m') bitsLt_bf16_f32
    | 2 => truncf .bf16 (weight (col2 s) m') bitsLt_bf16_f32 | 3 => truncf .bf16 (weight (col3 s) m') bitsLt_bf16_f32
    | 4 => truncf .bf16 (weight (col4 s) m') bitsLt_bf16_f32 | 5 => truncf .bf16 (weight (col5 s) m') bitsLt_bf16_f32
    | 6 => truncf .bf16 (weight (col6 s) m') bitsLt_bf16_f32 | 7 => truncf .bf16 (weight (col7 s) m') bitsLt_bf16_f32 : Fin 8 → FVec Ideal S32x128 .bf16) _ r g j).trans ?_
  fin_cases g
  · exact congrArg (wt · _) (col0_apply s r j)
  · exact congrArg (wt · _) (col1_apply s r j)
  · exact congrArg (wt · _) (col2_apply s r j)
  · exact congrArg (wt · _) (col3_apply s r j)
  · exact congrArg (wt · _) (col4_apply s r j)
  · exact congrArg (wt · _) (col5_apply s r j)
  · exact congrArg (wt · _) (col6_apply s r j)
  · exact congrArg (wt · _) (col7_apply s r j)

/-- The weights of a row whose new maximum is `μ` in every lane. -/
theorem weights_uniform (s : FVec Ideal S32x1024 .f32) (m' : FVec Ideal S32x128 .f32) (r : Fin 32) (μ : EReal) (h : ∀ j, m' (ix2 r j) = μ) (i : Fin 1024) :
    weights (F := Ideal) s m' (ix2 r i) = wt (s (ix2 r i)) μ := by
  have hi : tok ⟨i.val / 128, by omega⟩ ⟨i.val % 128, Nat.mod_lt _ (by omega)⟩ = i := Fin.ext (by show 128 * (i.val / 128) + i.val % 128 = i.val; omega)
  have := weights_apply s m' r ⟨i.val / 128, by omega⟩ ⟨i.val % 128, Nat.mod_lt _ (by omega)⟩
  rwa [hi, h] at this

/-- The weighted values at a row and a column. -/
theorem weighted_apply {e : FTy} (s : FVec Ideal S32x1024 .f32) (m' : FVec Ideal S32x128 .f32) (v : FVec Ideal S1024x256 e) (r : Fin 32) (c : Fin 256) :
    weighted (F := Ideal) s m' v (ix2 r c) = ∑ i : Fin 1024, weights (F := Ideal) s m' (ix2 r i) * v (ix2 i c) := by
  refine (Ideal.matmul_plain_apply (M := 32) (K := 1024) (N := 256) none (weights (F := Ideal) s m') v _ r c).trans ?_
  rw [constant_apply, Ideal.ofBits_zero_f32, zero_add]

/-- The new accumulator, at a column of either half. -/
theorem nextAcc_fst (m m' : FVec Ideal S32x128 .f32) (acc pv : FVec Ideal S32x256 .f32) (r : Fin 32) (d : Fin 128) :
    nextAcc (F := Ideal) m m' acc pv (ix2 r (fst d)) = acc (ix2 r (fst d)) * wt (m (ix2 r d)) (m' (ix2 r d)) + pv (ix2 r (fst d)) := by
  unfold nextAcc
  rw [addf_apply, mulf_apply, pair_left _ _ _ r (fst d) d rfl, weight_apply]

@[inherit_doc nextAcc_fst] theorem nextAcc_snd (m m' : FVec Ideal S32x128 .f32) (acc pv : FVec Ideal S32x256 .f32) (r : Fin 32) (d : Fin 128) :
    nextAcc (F := Ideal) m m' acc pv (ix2 r (snd d)) = acc (ix2 r (snd d)) * wt (m (ix2 r d)) (m' (ix2 r d)) + pv (ix2 r (snd d)) := by
  unfold nextAcc
  rw [addf_apply, mulf_apply, pair_right _ _ _ r (snd d) d (Nat.add_comm _ _), weight_apply]

end Cert.KernelIdeal.Parts

end
-- ==== Proof.Scales.lean ====
module

public import Idealize.ShloMosaic.PureOps.Ideal
public import Idealize.ShloMosaic.PureOps.Ideal.Laws
public import Idealize.ShloMosaic.Lib.IdealHost

/-! The scale words: what they denote, and the inverse of a scale's power of two, found in two ways. -/

@[expose] public section

noncomputable section

namespace Cert.Scales

open Idealize.ShloMosaic

/-- A scale word the claim covers: not negative and below the patterns of the last finite exponent. -/
def Ok (w : BitVec 32) : Prop := w.toNat < 254 * 2 ^ 23

/-- The sign bit of such a word is clear. -/
theorem Ok.msb {w : BitVec 32} (h : Ok w) : w.msb = false := by
  unfold Ok at h
  rw [BitVec.msb_eq_decide]
  simp only [decide_eq_false_iff_not, not_le]
  omega

/-- The real number such a word denotes. -/
theorem Ok.real {w : BitVec 32} (h : Ok w) : ∃ r : ℝ, 0 ≤ r ∧ Ideal.ofBits .f32 w = (r : EReal) := by
  have hm := h.msb
  unfold Ok at h
  have hneg : (w.extractLsb' 31 1 == 1#1) = false := by
    rw [BitVec.msb_eq_decide] at hm
    simp only [decide_eq_false_iff_not, not_le] at hm
    rw [beq_eq_false_iff_ne]
    intro e
    have := congrArg BitVec.toNat e
    rw [BitVec.extractLsb'_toNat, Nat.shiftRight_eq_div_pow] at this
    simp at this
    omega
  have hex : (w.extractLsb' 23 8).toNat ≠ 2 ^ 8 - 1 := by
    rw [BitVec.extractLsb'_toNat, Nat.shiftRight_eq_div_pow]
    omega
  unfold Ideal.ofBits Ideal.ieee
  simp only [show 8 + 23 = 31 from rfl, hneg, if_neg hex, Bool.false_eq_true, if_false, one_mul]
  split
  · refine ⟨_, ?_, rfl⟩; positivity
  · refine ⟨_, ?_, rfl⟩; positivity

/-- It is not negative. -/
theorem Ok.nonneg {w : BitVec 32} (h : Ok w) : 0 ≤ Ideal.ofBits .f32 w := by
  obtain ⟨r, hr, e⟩ := h.real
  rw [e]; exact_mod_cast hr

/-- It is finite. -/
theorem Ok.ne_top {w : BitVec 32} (h : Ok w) : Ideal.ofBits .f32 w ≠ ⊤ := by
  obtain ⟨r, hr, e⟩ := h.real
  rw [e]; exact EReal.coe_ne_top r

/-- The biased exponent of a word. -/
abbrev biased (w : BitVec 32) : BitVec 32 := Scalar.andi (Scalar.shrsi w 23#32) 255#32

/-- The biased exponent of such a word is at most 253. -/
theorem Ok.biased {w : BitVec 32} (h : Ok w) : ∃ n : Fin 254, biased w = BitVec.ofNat 32 n.val := by
  have hm := h.msb
  unfold Ok at h
  refine ⟨⟨w.toNat / 2 ^ 23, by omega⟩, ?_⟩
  have e : Scalar.shrsi w 23#32 = w >>> 23 := by
    show w.sshiftRight _ = _
    rw [BitVec.sshiftRight_eq_of_msb_false hm]
    rfl
  apply BitVec.eq_of_toNat_eq
  show (Scalar.shrsi w 23#32 &&& 255#32).toNat = _
  rw [e, BitVec.toNat_and, BitVec.toNat_ushiftRight, Nat.shiftRight_eq_div_pow, BitVec.toNat_ofNat]
  show w.toNat / 2 ^ 23 &&& (2 ^ 8 - 1) = w.toNat / 2 ^ 23 % 2 ^ 32
  rw [Nat.and_two_pow_sub_one_eq_mod]
  omega

/-- The inverse as a bit pattern. -/
abbrev asPattern (b : BitVec 32) : BitVec 32 := Scalar.select (Scalar.cmpi .eq b 0#32) 1073741824#32 (Scalar.shli (Scalar.subi 254#32 b) 23#32)
/-- The inverse's exponent. -/
abbrev asPower (b : BitVec 32) : BitVec 32 := Scalar.subi 1#32 (Scalar.select (Scalar.cmpi .eq b 0#32) 0#32 (Scalar.subi b 126#32))

theorem power_zero : asPower 0#32 = 1#32 := by decide
theorem pattern_zero : asPattern 0#32 = 0x40000000#32 := by decide
theorem power_toInt : ∀ n : Fin 254, n.val ≠ 0 → (asPower (BitVec.ofNat 32 n.val)).toInt = 127 - (n.val : ℤ) := by decide +kernel
theorem pattern_exp : ∀ n : Fin 254, n.val ≠ 0 → ((asPattern (BitVec.ofNat 32 n.val)).extractLsb' 23 8).toNat = 254 - n.val := by decide +kernel
theorem pattern_frac : ∀ n : Fin 254, n.val ≠ 0 → ((asPattern (BitVec.ofNat 32 n.val)).extractLsb' 0 23).toNat = 0 := by decide +kernel
theorem pattern_sign : ∀ n : Fin 254, n.val ≠ 0 → ((asPattern (BitVec.ofNat 32 n.val)).extractLsb' 31 1 == 1#1) = false := by decide +kernel

/-- The two inverses agree. -/
theorem inverse_eq {w : BitVec 32} (h : Ok w) :
    Ideal.ofBits .f32 (asPattern (biased w)) = Ideal.exp2 (((asPower (biased w)).toInt : ℝ) : EReal) := by
  obtain ⟨n, hn⟩ := h.biased
  rw [hn]
  by_cases h0 : n.val = 0
  · rw [h0]
    show Ideal.ofBits .f32 (asPattern 0#32) = Ideal.exp2 (((asPower 0#32).toInt : ℝ) : EReal)
    rw [power_zero, pattern_zero]
    show _ = ((Real.rpow 2 (((1#32).toInt : ℤ) : ℝ) : ℝ) : EReal)
    have : ((1#32).toInt : ℤ) = 1 := by decide
    rw [this]
    simp [Ideal.ofBits, Ideal.ieee]
    norm_cast
    norm_num
  · rw [power_toInt n h0]
    unfold Ideal.ofBits Ideal.ieee
    have hs := pattern_sign n h0
    simp only [show 8 + 23 = 31 from rfl, hs, pattern_exp n h0, pattern_frac n h0]
    have hlt := n.isLt
    rw [if_neg (by omega), if_neg (by omega)]
    show _ = ((Real.rpow 2 ((127 - (n.val : ℤ) : ℤ) : ℝ) : ℝ) : EReal)
    congr 1
    show _ = (2 : ℝ) ^ (((127 - (n.val : ℤ) : ℤ)) : ℝ)
    rw [Real.rpow_intCast]
    have e : ((254 - n.val : ℕ) : ℤ) = 254 - (n.val : ℤ) := by omega
    rw [e]
    norm_num
    rw [show (8388608 : ℝ) = (2 : ℝ) ^ (23 : ℤ) by norm_num, ← zpow_add₀ two_ne_zero]
    congr 1
    ring

/-- The factor on the scores is not negative. -/
theorem factor_nonneg : 0 ≤ Ideal.ofBits .f32 0x3DB504F3#32 := (show Ok 0x3DB504F3#32 by unfold Ok; decide).nonneg
/-- The factor on the scores is finite. -/
theorem factor_ne_top : Ideal.ofBits .f32 0x3DB504F3#32 ≠ ⊤ := (show Ok 0x3DB504F3#32 by unfold Ok; decide).ne_top

/-- What a scale word in range says of itself: the signed comparisons the precondition makes. -/
theorem Ok.of_compare {w : BitVec 32} (h₀ : IntOp.cmpi .sge w 0#32 = 1#1) (h₁ : IntOp.cmpi .slt w 2130706432#32 = 1#1) : Ok w := by
  have a : (0#32).sle w = true := by
    have : BitVec.ofBool ((0#32).sle w) = 1#1 := h₀
    cases hh : (0#32).sle w
    · rw [hh] at this; exact absurd this (by decide)
    · rfl
  have b : w.slt 2130706432#32 = true := by
    have : BitVec.ofBool (w.slt 2130706432#32) = 1#1 := h₁
    cases hh : w.slt 2130706432#32
    · rw [hh] at this; exact absurd this (by decide)
    · rfl
  rw [BitVec.sle_eq_decide, decide_eq_true_eq] at a
  rw [BitVec.slt_eq_decide, decide_eq_true_eq] at b
  have e : (2130706432#32).toInt = 2130706432 := by decide
  have e0 : (0#32).toInt = 0 := by decide
  rw [e] at b
  rw [e0] at a
  unfold Ok
  rw [BitVec.toInt_eq_toNat_cond] at a b
  split at a <;> omega

end Cert.Scales

end
-- ==== Proof.Merge.lean ====
module

public import proofs.«01_k».proof.Proof.Online
public import Mathlib.Algebra.BigOperators.Intervals

/-! The two halves of the streaming softmax put together: the maximum, the sum and the accumulator over all tokens. -/

@[expose] public section

noncomputable section

namespace Cert.Online

open scoped BigOperators

/-- The tokens of a block of 1024 that lane `j` counts. -/
def lane (j : ℕ) : Finset ℕ := (Finset.range 8).image fun g => 128 * g + j

/-- A sum over them. -/
theorem sum_lane (j : ℕ) (f : ℕ → EReal) : ∑ i ∈ lane j, f i = ∑ g ∈ Finset.range 8, f (128 * g + j) :=
  Finset.sum_image fun a _ b _ h => by have h : 128 * a + j = 128 * b + j := h; omega

/-- They lie in the block. -/
theorem lane_lt {j : ℕ} (hj : j < 128) : ∀ i ∈ lane j, i < 1024 := by
  intro i hi
  obtain ⟨g, hg, rfl⟩ := Finset.mem_image.mp hi
  have := Finset.mem_range.mp hg
  omega

/-- A sum over `a * b` numbers by blocks of `b`. -/
theorem sum_blocks (a b : ℕ) (f : ℕ → EReal) : ∑ k ∈ Finset.range (a * b), f k = ∑ c ∈ Finset.range a, ∑ i ∈ Finset.range b, f (b * c + i) := by
  induction a with
  | zero => simp
  | succ a ih => rw [Nat.succ_mul, Finset.sum_range_add, ih, Finset.sum_range_succ, Nat.mul_comm a b]

/-- The lanes together count every token of a block. -/
theorem sum_lanes (f : ℕ → EReal) : ∑ j ∈ Finset.range 128, ∑ i ∈ lane j, f i = ∑ i ∈ Finset.range 1024, f i := by
  simp only [sum_lane]
  rw [Finset.sum_comm, show 1024 = 8 * 128 from rfl, sum_blocks]

/-- The blocks of 1024 in even places and those in odd places together are all 65536 tokens. -/
theorem sum_tokens (f : ℕ → EReal) :
    ∑ k ∈ Finset.range 65536, f k
      = (∑ c ∈ Finset.range 32, ∑ i ∈ Finset.range 1024, f (1024 * (2 * c) + i)) + ∑ c ∈ Finset.range 32, ∑ i ∈ Finset.range 1024, f (1024 * (2 * c + 1) + i) := by
  rw [show 65536 = 32 * 2048 from rfl, sum_blocks, ← Finset.sum_add_distrib]
  refine Finset.sum_congr rfl fun c _ => ?_
  rw [show 2048 = 1024 + 1024 from rfl, Finset.sum_range_add]
  congr 1 <;> refine Finset.sum_congr rfl fun i _ => congrArg f (by ring)

variable {s v : ℕ → EReal} {s0 v0 ma mb : EReal}

/-- The first half's blocks. -/
def even (c : ℕ) : ℕ := 1024 * (2 * c)
/-- The second half's blocks. -/
def odd (c : ℕ) : ℕ := 1024 * (2 * c + 1)

/-- The larger of the halves' maxima bounds exactly what bounds the new token's score and every token's. -/
theorem merged_max {l l' a a' : EReal} {t t' : Finset ℕ} {l0 l0' v0' : EReal}
    (A : Inv 1024 even t s v s0 l0 v0 32 ma l a) (B : Inv 1024 odd t' s v ⊥ l0' v0' 32 mb l' a') (M : EReal) :
    max ma mb ≤ M ↔ s0 ≤ M ∧ ∀ k < 65536, s k ≤ M := by
  rw [max_le_iff, A.max, B.max]
  simp only [bot_le, true_and, even, odd]
  constructor
  · rintro ⟨⟨h0, ha⟩, hb⟩
    refine ⟨h0, fun k hk => ?_⟩
    rcases Nat.lt_or_ge (k % 2048) 1024 with h | h
    · have := ha (k / 2048) (by omega) (k % 2048) h
      rwa [show 1024 * (2 * (k / 2048)) + k % 2048 = k by omega] at this
    · have := hb (k / 2048) (by omega) (k % 2048 - 1024) (by omega)
      rwa [show 1024 * (2 * (k / 2048) + 1) + (k % 2048 - 1024) = k by omega] at this
  · rintro ⟨h0, h⟩
    exact ⟨⟨h0, fun c hc i hi => h _ (by omega)⟩, fun c hc i hi => h _ (by omega)⟩

/-- The halves' sums, rescaled and added over the lanes, are the weights of the new token and of every token. -/
theorem merged_sum {l l' : ℕ → EReal} {a a' v0' : EReal}
    (A : ∀ j < 128, Inv 1024 even (lane j) s v s0 (if j = 0 then 1 else 0) v0 32 ma (l j) a)
    (B : ∀ j < 128, Inv 1024 odd (lane j) s v ⊥ 0 v0' 32 mb (l' j) a') :
    ∑ j ∈ Finset.range 128, (l j * wt ma (max ma mb) + l' j * wt mb (max ma mb))
      = (∑ k ∈ Finset.range 65536, wt (s k) (max ma mb)) + wt s0 (max ma mb) := by
  rw [Finset.sum_congr rfl fun j hj => congrArg₂ (· + ·) ((A j (Finset.mem_range.mp hj)).sum _ (le_max_left ma mb))
    ((B j (Finset.mem_range.mp hj)).sum _ (le_max_right ma mb))]
  simp only [zero_mul, zero_add, Finset.sum_add_distrib]
  rw [Finset.sum_comm (s := Finset.range 128), Finset.sum_comm (s := Finset.range 128)]
  simp only [sum_lanes (fun i => wt (s (even _ + i)) _), sum_lanes (fun i => wt (s (odd _ + i)) _)]
  rw [sum_tokens (fun k => wt (s k) (max ma mb))]
  have e : ∑ j ∈ Finset.range 128, (if j = 0 then (1 : EReal) else 0) * wt s0 (max ma mb) = wt s0 (max ma mb) := by
    simp [ite_mul, Finset.sum_ite_eq']
  rw [e, add_assoc, add_comm]
  rfl

/-- The halves' accumulators, rescaled and added, are the weighted values of the new token and of every token. -/
theorem merged_acc {l l' a a' l0 l0' : EReal} {t t' : Finset ℕ}
    (A : Inv 1024 even t s v s0 l0 v0 32 ma l a) (B : Inv 1024 odd t' s v ⊥ l0' 0 32 mb l' a') :
    a * wt ma (max ma mb) + a' * wt mb (max ma mb)
      = (∑ k ∈ Finset.range 65536, wt (s k) (max ma mb) * v k) + wt s0 (max ma mb) * v0 := by
  rw [A.acc _ (le_max_left ma mb), B.acc _ (le_max_right ma mb), zero_mul, zero_add, sum_tokens (fun k => wt (s k) (max ma mb) * v k), mul_comm v0,
    add_assoc, add_comm]
  rfl

end Cert.Online

end
-- ==== Proof.Terms.lean ====
module

public import proofs.«01_k».proof.Proof.Online
public import Idealize.ShloMosaic.Lib.ValueIdx

/-! The mathematics both programs compute, in plain terms over the extended reals: quantisation, scores, values, attention. -/

@[expose] public section

noncomputable section

namespace Cert.Online

open Idealize.ShloMosaic Idealize.ShloMosaic.ValueIdx
open scoped BigOperators

/-- The quantised value of `x`: times the inverse scale `a`, held between -448 and 448. -/
def quant (a x : EReal) : EReal := min (Ideal.ofBits .f32 0x43E00000#32) (max (Ideal.ofBits .f32 0xC3E00000#32) (x * a))

/-- The score of a query row `q` with a token's key codes `k` under the scale `ks`. -/
def dot (q : Fin 128 → EReal) (ks : EReal) (k : Fin 128 → EReal) : EReal :=
  (∑ d : Fin 128, q d * (k d * ks)) * Ideal.ofBits .f32 0x3DB504F3#32

/-- The score of query row `q` with token `k`. -/
def score (q : Fin 128 → EReal) (ks : EReal) (kc : ℕ → Fin 128 → EReal) (k : ℕ) : EReal := dot q ks (kc k)

/-- Column `d` of token `k`'s value. -/
def value (vs : EReal) (vc : ℕ → Fin 128 → EReal) (d : Fin 128) (k : ℕ) : EReal := vc k d * vs

/-- One batch of a cache, its tokens numbered. -/
def codes (a : Fin 65536 → Fin 128 → EReal) (k : ℕ) (d : Fin 128) : EReal := if h : k < 65536 then a ⟨k, h⟩ d else 0

theorem codes_lt (a : Fin 65536 → Fin 128 → EReal) (k : Fin 65536) (d : Fin 128) : codes a k.val d = a k d := dif_pos k.isLt

/-- The softmax attention of one query row: `s` the tokens' scores, `s0` the new token's, `v` and `v0` one column of their values, `M`
the largest score. -/
def attend (s v : ℕ → EReal) (s0 v0 M : EReal) : EReal :=
  Ideal.div ((∑ k ∈ Finset.range 65536, wt (s k) M * v k) + wt s0 M * v0) ((∑ k ∈ Finset.range 65536, wt (s k) M) + wt s0 M)

/-- `M` is the largest of the scores. -/
def Largest (s : ℕ → EReal) (s0 M : EReal) : Prop := ∀ X, M ≤ X ↔ s0 ≤ X ∧ ∀ k < 65536, s k ≤ X

/-- There is one largest score. -/
theorem Largest.eq {s : ℕ → EReal} {s0 M M' : EReal} (h : Largest s s0 M) (h' : Largest s s0 M') : M = M' :=
  le_antisymm ((h M').mpr ((h' M').mp le_rfl)) ((h' M).mpr ((h M).mp le_rfl))

end Cert.Online

end
-- ==== Proof.Chunk.lean ====
module

public import proofs.«01_k».proof.Proof.Parts
public import proofs.«01_k».proof.Proof.Scales
public import proofs.«01_k».proof.Proof.Merge
public import proofs.«01_k».proof.Proof.Terms
public import proofs.«01_k».proof.Proof.State

/-! What the running state is after any number of chunks: the streaming softmax of the tokens seen, over the extended reals. -/

@[expose] public section

noncomputable section

namespace Cert.KernelIdeal.Chunk

open Cert.KernelIdeal Cert.KernelIdeal.Gen Cert.KernelIdeal.Sweep Cert.KernelIdeal.Parts Cert.KernelIdeal.Run Cert.KernelIdeal.Blocks Cert.KernelIdeal.State Cert.Online
open Idealize.ShloMosaic Idealize.ShloMosaic.ValueIdx
open scoped BigOperators

/-- Row `r` of the state after `n` chunks: the running maximum is the same in every lane, and it, a lane's running sum and a
column's accumulator are those of the streaming softmax. -/
structure Half (st : St Ideal) (r : Fin 32) (col : Fin 128 → Fin 256) (o : ℕ → ℕ) (s : ℕ → EReal) (v : Fin 128 → ℕ → EReal)
    (s0 : EReal) (l0 : ℕ → EReal) (v0 : Fin 128 → EReal) (n : ℕ) : Prop where
  uniform : ∀ j : Fin 128, st.m (ix2 r j) = st.m (ix2 r 0)
  inv : ∀ j d : Fin 128, Inv 1024 o (lane j.val) s (v d) s0 (l0 j.val) (v0 d) n (st.m (ix2 r 0)) (st.l (ix2 r j)) (st.acc (ix2 r (col d)))

/-- One more chunk, from its scores and its weighted values. -/
theorem Half.step {st : St Ideal} {r : Fin 32} {col : Fin 128 → Fin 256} {o : ℕ → ℕ} {s : ℕ → EReal} {v : Fin 128 → ℕ → EReal}
    {s0 : EReal} {l0 : ℕ → EReal} {v0 : Fin 128 → EReal} {n : ℕ} (H : Half st r col o s v s0 l0 v0 n)
    (hcol : ∀ (m m' : FVec Ideal S32x128 .f32) (acc pv : FVec Ideal S32x256 .f32) (d : Fin 128),
      nextAcc (F := Ideal) m m' acc pv (ix2 r (col d)) = acc (ix2 r (col d)) * wt (m (ix2 r d)) (m' (ix2 r d)) + pv (ix2 r (col d)))
    (sm : FVec Ideal S32x1024 .f32) (pv : FVec Ideal S32x256 .f32) (hs : ∀ i : Fin 1024, sm (ix2 r i) = s (o n + i.val))
    (hpv : ∀ d, pv (ix2 r (col d)) = ∑ i : Fin 1024, weights (F := Ideal) sm (nextM st.m sm) (ix2 r i) * v d (o n + i.val)) :
    Half ⟨nextM st.m sm, nextL st.m st.l (nextM st.m sm) sm, nextAcc st.m (nextM st.m sm) st.acc pv⟩ r col o s v s0 l0 v0 (n + 1) := by
  have hu := nextM_uniform st.m sm r H.uniform
  refine ⟨hu, fun j d => ?_⟩
  have I := (H.inv j d).step (m' := nextM (F := Ideal) st.m sm (ix2 r 0)) (lane_lt j.isLt) (fun M => by
    rw [nextM_le]
    refine and_congr_right fun _ => ⟨fun h i hi => ?_, fun h i => ?_⟩
    · have := h ⟨i, hi⟩; rwa [hs] at this
    · rw [hs]; exact h i.val i.isLt)
  have el : nextL (F := Ideal) st.m st.l (nextM st.m sm) sm (ix2 r j)
      = st.l (ix2 r j) * wt (st.m (ix2 r 0)) (nextM (F := Ideal) st.m sm (ix2 r 0)) + ∑ i ∈ lane j.val, wt (s (o n + i)) (nextM (F := Ideal) st.m sm (ix2 r 0)) := by
    rw [nextL_apply, H.uniform j, hu j, sum_lane, Finset.sum_range]
    refine congrArg _ (Finset.sum_congr rfl fun g _ => ?_)
    rw [hs]
  have ea : nextAcc (F := Ideal) st.m (nextM st.m sm) st.acc pv (ix2 r (col d))
      = st.acc (ix2 r (col d)) * wt (st.m (ix2 r 0)) (nextM (F := Ideal) st.m sm (ix2 r 0))
        + ∑ i ∈ Finset.range 1024, wt (s (o n + i)) (nextM (F := Ideal) st.m sm (ix2 r 0)) * v d (o n + i) := by
    rw [hcol, H.uniform d, hu d, hpv, Finset.sum_range]
    refine congrArg _ (Finset.sum_congr rfl fun i _ => ?_)
    rw [weights_uniform sm _ r _ hu i, hs]
  show Inv 1024 o (lane j.val) s (v d) s0 (l0 j.val) (v0 d) (n + 1) (nextM (F := Ideal) st.m sm (ix2 r 0))
    (nextL (F := Ideal) st.m st.l (nextM st.m sm) sm (ix2 r j)) (nextAcc (F := Ideal) st.m (nextM st.m sm) st.acc pv (ix2 r (col d)))
  rw [el, ea]
  exact I

/-- The state of a batch after `n` chunks: `x` its queries, `kc` and `vc` its codes, `s0` and `v0` the new token's scores and value. -/
structure Good (x : Vec Ideal S1x16x128 .bf16) (ks vs : EReal) (kc vc : ℕ → Fin 128 → EReal) (s0 : Fin 16 → EReal) (v0 : Fin 128 → EReal)
    (n : ℕ) (st : St Ideal) : Prop where
  top : ∀ h, Half st (top h) fst even (score (fun d => x (ix3 0 h d)) ks kc) (value vs vc) (s0 h) (fun j => if j = 0 then 1 else 0) v0 n
  low : ∀ h, Half st (low h) snd odd (score (fun d => x (ix3 0 h d)) ks kc) (value vs vc) ⊥ (fun _ => 0) (fun _ => 0) n

section Step

variable {x : Vec Ideal S1x16x128 .bf16} {ks vs : EReal} {kc vc : ℕ → Fin 128 → EReal} {s0 : Fin 16 → EReal} {v0 : Fin 128 → EReal} {n : ℕ} {st : St Ideal}
  {ka kb va vb : Vec Ideal S1x1024x128 .fp8e4m3}

/-- One chunk with the codes widened and scaled before the products. -/
theorem Good.wide (G : Good x ks vs kc vc s0 v0 n st)
    (hka : ∀ (i : Fin 1024) d, ka (ix3 0 i d) = kc (even n + i.val) d) (hkb : ∀ (i : Fin 1024) d, kb (ix3 0 i d) = kc (odd n + i.val) d)
    (hva : ∀ (i : Fin 1024) d, va (ix3 0 i d) = vc (even n + i.val) d) (hvb : ∀ (i : Fin 1024) d, vb (ix3 0 i d) = vc (odd n + i.val) d) :
    Good x ks vs kc vc s0 v0 (n + 1) (stepWide (F := Ideal) ks vs (k0_pay415 x) st ka kb va vb) := by
  have hw (w : EReal) (a b : Vec Ideal S1x1024x128 .fp8e4m3) (i : Fin 1024) (c : Fin 256) :
      Sweep.wide (F := Ideal) w (side a b) (ix2 i c) = side (F := Ideal) a b (ix2 i c) * w := rfl
  constructor
  · intro h
    refine (G.top h).step (fun _ _ _ _ _ => nextAcc_fst _ _ _ _ _ _) _ _ (fun i => ?_) (fun d => ?_)
    · rw [scores_apply, dot_top x _ h]
      simp only [hw, side_fst, hka]
      rfl
    · rw [weighted_apply]
      simp only [hw, side_fst, hva]
      rfl
  · intro h
    refine (G.low h).step (fun _ _ _ _ _ => nextAcc_snd _ _ _ _ _ _) _ _ (fun i => ?_) (fun d => ?_)
    · rw [scores_apply, dot_low x _ h]
      simp only [hw, side_snd, hkb]
      rfl
    · rw [weighted_apply]
      simp only [hw, side_snd, hvb]
      rfl

/-- A factor that is not negative and finite may be applied to the terms of a sum of products instead. -/
theorem sum_scaled {n : ℕ} (a b : Fin n → EReal) {c : EReal} (h : 0 ≤ c) (h' : c ≠ ⊤) : (∑ i, a i * b i) * c = ∑ i, a i * (b i * c) := by
  rw [sum_mul' _ _ h h']
  exact Finset.sum_congr rfl fun i _ => mul_assoc _ _ _

/-- One chunk with the scales applied after the products: for scales that are not negative and finite it is the same. -/
theorem Good.exact (G : Good x ks vs kc vc s0 v0 n st) (hks : 0 ≤ ks) (hks' : ks ≠ ⊤) (hvs : 0 ≤ vs) (hvs' : vs ≠ ⊤)
    (hka : ∀ (i : Fin 1024) d, ka (ix3 0 i d) = kc (even n + i.val) d) (hkb : ∀ (i : Fin 1024) d, kb (ix3 0 i d) = kc (odd n + i.val) d)
    (hva : ∀ (i : Fin 1024) d, va (ix3 0 i d) = vc (even n + i.val) d) (hvb : ∀ (i : Fin 1024) d, vb (ix3 0 i d) = vc (odd n + i.val) d) :
    Good x ks vs kc vc s0 v0 (n + 1) (stepExact (F := Ideal) (k0_pay11 (F := Ideal) ks) (k0_pay12 (F := Ideal) vs) (k0_pay415 x) st ka kb va vb) := by
  have hk : k0_pay11 (F := Ideal) ks = ks * Ideal.ofBits .f32 0x3DB504F3#32 := rfl
  have hv : k0_pay12 (F := Ideal) vs = vs := rfl
  rw [hk, hv]
  constructor
  · intro h
    refine (G.top h).step (fun _ _ _ _ _ => nextAcc_fst _ _ _ _ _ _) _ _ (fun i => ?_) (fun d => ?_)
    · rw [scores_apply, dot_top x _ h, ← mul_assoc, sum_scaled _ _ hks hks']
      simp only [side_fst, hka]
      rfl
    · rw [mulf_apply, broadcast_apply, weighted_apply, sum_scaled _ _ hvs hvs']
      simp only [side_fst, hva]
      rfl
  · intro h
    refine (G.low h).step (fun _ _ _ _ _ => nextAcc_snd _ _ _ _ _ _) _ _ (fun i => ?_) (fun d => ?_)
    · rw [scores_apply, dot_low x _ h, ← mul_assoc, sum_scaled _ _ hks hks']
      simp only [side_snd, hkb]
      rfl
    · rw [mulf_apply, broadcast_apply, weighted_apply, sum_scaled _ _ hvs hvs']
      simp only [side_snd, hvb]
      rfl

end Step

/-- What each of eight chunks keeps, all eight keep. -/
theorem eight_of {P : ℕ → St Ideal → Prop}
    (step : St Ideal → Vec Ideal S1x1024x128 .fp8e4m3 → Vec Ideal S1x1024x128 .fp8e4m3 → Vec Ideal S1x1024x128 .fp8e4m3 → Vec Ideal S1x1024x128 .fp8e4m3 → St Ideal)
    (k v : Fin 16 → Vec Ideal S1x1024x128 .fp8e4m3) (n : ℕ)
    (h : ∀ (c : ℕ) (hc : c < 8) (st : St Ideal), P (n + c) st →
      P (n + c + 1) (step st (k ⟨2 * c, by omega⟩) (k ⟨2 * c + 1, by omega⟩) (v ⟨2 * c, by omega⟩) (v ⟨2 * c + 1, by omega⟩)))
    {st : St Ideal} (h0 : P n st) : P (n + 8) (eight step k v st) :=
  h 7 (by omega) _ (h 6 (by omega) _ (h 5 (by omega) _ (h 4 (by omega) _ (h 3 (by omega) _ (h 2 (by omega) _ (h 1 (by omega) _ (h 0 (by omega) _ h0)))))))

section Point

variable {x : Vec Ideal S1x16x128 .bf16} {kc vc : ℕ → Fin 128 → EReal} {s0 : Fin 16 → EReal} {v0 : Fin 128 → EReal} {st : St Ideal}

/-- Block `o` of a point's 16384 tokens. -/
theorem block_tokens {y : Vec Ideal S1x16384x128 .fp8e4m3} {f : ℕ → Fin 128 → EReal} (p : ℕ) (hy : ∀ (i : Fin 16384) d, y (ix3 0 i d) = f (16384 * p + i.val) d)
    (o : Fin 16) (a : ℕ) (ha : a = 16384 * p + 1024 * o.val) (i : Fin 1024) (d : Fin 128) : block y o (ix3 0 i d) = f (a + i.val) d := by
  rw [block_apply]
  refine (hy _ _).trans ?_
  subst ha
  show f (16384 * p + (1024 * o.val + i.val)) d = _
  rw [Nat.add_assoc]

/-- The eight chunks of point `p` of a batch. -/
theorem Good.sweep (p : ℕ) (x0 : Vec Ideal S2 .f32) (x1 : Vec Ideal S2 .i32) (x5 x6 : Vec Ideal S1x16384x128 .fp8e4m3)
    (h0 : 0 ≤ x0 (ix1 0)) (h0' : x0 (ix1 0) ≠ ⊤) (h1 : 0 ≤ x0 (ix1 1)) (h1' : x0 (ix1 1) ≠ ⊤)
    (hk : ∀ (i : Fin 16384) d, x5 (ix3 0 i d) = kc (16384 * p + i.val) d) (hv : ∀ (i : Fin 16384) d, x6 (ix3 0 i d) = vc (16384 * p + i.val) d)
    (G : Good x (x0 (ix1 0)) (x0 (ix1 1)) kc vc s0 v0 (8 * p) st) :
    Good x (x0 (ix1 0)) (x0 (ix1 1)) kc vc s0 v0 (8 * p + 8) (sweep (F := Ideal) x0 x1 x x5 x6 st) := by
  unfold State.sweep
  split
  · refine eight_of (P := Good x (x0 (ix1 0)) (x0 (ix1 1)) kc vc s0 v0) _ _ _ _ (fun c hc st G => ?_) G
    exact G.exact h0 h0' h1 h1' (block_tokens p hk _ _ (by unfold even; simp only; omega)) (block_tokens p hk _ _ (by unfold odd; simp only; omega))
      (block_tokens p hv _ _ (by unfold even; simp only; omega)) (block_tokens p hv _ _ (by unfold odd; simp only; omega))
  · refine eight_of (P := Good x (x0 (ix1 0)) (x0 (ix1 1)) kc vc s0 v0) _ _ _ _ (fun c hc st G => ?_) G
    exact G.wide (block_tokens p hk _ _ (by unfold even; simp only; omega)) (block_tokens p hk _ _ (by unfold odd; simp only; omega))
      (block_tokens p hv _ _ (by unfold even; simp only; omega)) (block_tokens p hv _ _ (by unfold odd; simp only; omega))

end Point

end Cert.KernelIdeal.Chunk

end
-- ==== Proof.Batch.lean ====
module

public import proofs.«01_k».proof.Proof.Chunk

/-! The state a batch starts from, and the result its last state gives, over the extended reals. -/

@[expose] public section

noncomputable section

namespace Cert.KernelIdeal.Batch

open Cert.KernelIdeal Cert.KernelIdeal.Gen Cert.KernelIdeal.Sweep Cert.KernelIdeal.Parts Cert.KernelIdeal.Run Cert.KernelIdeal.Chunk Cert.Online
open Idealize.ShloMosaic Idealize.ShloMosaic.ValueIdx
open scoped BigOperators

/-- The new key's codes. -/
theorem codesK_apply (x1 : Vec Ideal S2 .i32) (x3 : Vec Ideal S1x1x128 .bf16) (d : Fin 128) :
    k0_pay2 (F := Ideal) x3 (x1 (ix1 0)) (ix2 0 d) = quant (Ideal.ofBits .f32 (Scales.asPattern (Scales.biased (x1 (ix1 0))))) (x3 (ix3 0 0 d)) := by
  have e : shapeCast S1x128 x3 shapeCasts_S1x1x128_S1x128 (ix2 0 d) = x3 (ix3 0 0 d) := shapeCast_1ab_ab_apply x3 _ 0 d
  rw [← e]
  rfl

/-- The new value's codes. -/
theorem codesV_apply (x1 : Vec Ideal S2 .i32) (x4 : Vec Ideal S1x1x128 .bf16) (d : Fin 128) :
    k0_pay3 (F := Ideal) x4 (x1 (ix1 1)) (ix2 0 d) = quant (Ideal.ofBits .f32 (Scales.asPattern (Scales.biased (x1 (ix1 1))))) (x4 (ix3 0 0 d)) := by
  have e : shapeCast S1x128 x4 shapeCasts_S1x1x128_S1x128 (ix2 0 d) = x4 (ix3 0 0 d) := shapeCast_1ab_ab_apply x4 _ 0 d
  rw [← e]
  rfl

/-- The new key's codes as they are stored. -/
theorem stored_codesK (x1 : Vec Ideal S2 .i32) (x3 : Vec Ideal S1x1x128 .bf16) (d : Fin 128) :
    codesK (F := Ideal) x1 x3 (ix3 0 0 d) = quant (Ideal.ofBits .f32 (Scales.asPattern (Scales.biased (x1 (ix1 0))))) (x3 (ix3 0 0 d)) :=
  (shapeCast_ab_1ab_apply _ _ 0 0 d).trans (codesK_apply x1 x3 d)

/-- The new value's codes as they are stored. -/
theorem stored_codesV (x1 : Vec Ideal S2 .i32) (x4 : Vec Ideal S1x1x128 .bf16) (d : Fin 128) :
    codesV (F := Ideal) x1 x4 (ix3 0 0 d) = quant (Ideal.ofBits .f32 (Scales.asPattern (Scales.biased (x1 (ix1 1))))) (x4 (ix3 0 0 d)) :=
  (shapeCast_ab_1ab_apply _ _ 0 0 d).trans (codesV_apply x1 x4 d)

/-- A sum along the rows of a block, kept as a column. -/
theorem rowSum_apply (y : FVec Ideal S16x128 .f32) (h : Fin 16) (j : Fin 1) :
    shapeCast S16x1 (multiReduction (F := Ideal) .add [1] S16 y 0x00000000#32 reduces_S16x128_S16 (.inl rfl) rfl) shapeCasts_S16_S16x1 (ix2 h j)
      = ∑ d : Fin 128, y (ix2 h d) := by
  refine (shapeCast_a_a1_apply _ _ h j).trans ?_
  refine (Ideal.multiReduction_add_single _ _ _ _ _ (ix1 h)).trans (Finset.sum_congr rfl fun d _ => congrArg y (funext fun a => ?_))
  match a with
  | ⟨0, _⟩ => rfl
  | ⟨1, _⟩ => rfl

/-- A column along the lanes. -/
theorem column_apply (y : FVec Ideal S16x1 .f32) (h : Fin 16) (j : Fin 128) : broadcastTo S16x128 y broadcasts_S16x1_S16x128 (ix2 h j) = y (ix2 h 0) :=
  broadcastTo_apply _ _ _ _ (fun a => match a with
    | ⟨0, _⟩ => rfl
    | ⟨1, _⟩ => rfl)

/-- The new token's score, the same in every lane. -/
theorem newScore_apply (a : EReal) (x2 : Vec Ideal S1x16x128 .bf16) (k : FVec Ideal S1x128 .fp8e4m3) (h : Fin 16) (j : Fin 128) :
    k0_pay8 (F := Ideal) a (k0_pay409 x2) k (ix2 h j) = (∑ d : Fin 128, x2 (ix3 0 h d) * (k (ix2 0 d) * a)) * Ideal.ofBits .f32 0x3DB504F3#32 := by
  unfold k0_pay8
  refine (congrFun (shapeCast_self _ _) (ix2 h j)).trans ?_
  refine (column_apply _ h j).trans ?_
  refine (congrFun (shapeCast_self _ _) (ix2 h 0)).trans ?_
  refine (mulf_apply _ _ _).trans ?_
  refine congrArg (· * _) ((rowSum_apply _ h 0).trans (Finset.sum_congr rfl fun d _ => ?_))
  refine (mulf_apply _ _ _).trans (congrArg₂ (· * ·) ?_ ?_)
  · exact shapeCast_1ab_ab_apply x2 _ h d
  · exact broadcastTo_1b_ab_apply _ _ h d

/-- The starting count: one in lane 0. -/
theorem count_apply (h : Fin 16) (j : Fin 128) : k0_pay10 (F := Ideal) (ix2 h j) = if j.val = 0 then 1 else 0 := by
  have e : k0_pay10 (F := Ideal) (ix2 h j) = Scalar.select (IntOp.cmpi .eq (BitVec.ofNat 32 (0 * 128 + j.val)) 0#32) (Ideal.ofBits .f32 0x3F800000#32) (Ideal.ofBits .f32 0x00000000#32) := rfl
  rw [e, Nat.zero_mul, Nat.zero_add, Ideal.ofBits_one_f32, Ideal.ofBits_zero_f32]
  by_cases hj : j.val = 0
  · rw [if_pos hj, hj]; rfl
  · have : (IntOp.cmpi .eq (BitVec.ofNat 32 j.val) 0#32 : BitVec 1) = 0#1 := by
      exact (by decide +kernel : ∀ j : Fin 128, ¬ j.val = 0 → (IntOp.cmpi .eq (BitVec.ofNat 32 j.val) 0#32 : BitVec 1) = 0#1) j hj
    rw [if_neg hj, this]; rfl

section Start

variable (x0 : Vec Ideal S2 .f32) (x1 : Vec Ideal S2 .i32) (x2 : Vec Ideal S1x16x128 .bf16) (x3 x4 : Vec Ideal S1x1x128 .bf16)

theorem halves_top (a b : Vec Ideal S16x128 .f32) (h : Fin 16) (j : Fin 128) : halves a b (ix2 (top h) j) = a (ix2 h j) := by
  unfold halves
  rw [dif_pos (show (ix2 (top h) j 0).val < 16 from h.isLt)]
  rfl

theorem halves_low (a b : Vec Ideal S16x128 .f32) (h : Fin 16) (j : Fin 128) : halves a b (ix2 (low h) j) = b (ix2 h j) := by
  unfold halves
  rw [dif_neg (show ¬ (ix2 (low h) j 0).val < 16 by show ¬ 16 + h.val < 16; omega)]
  exact congrArg b (congrArg (fun i => ix2 i j) (Fin.ext (by show 16 + h.val - 16 = h.val; omega)))

theorem thirds_fst (a b : Vec Ideal S16x128 .f32) (e : Vec Ideal S16x256 .f32) (h : Fin 16) (d : Fin 128) : thirds a b e (ix2 (top h) (fst d)) = a (ix2 h d) := by
  unfold thirds
  rw [dif_pos (show (ix2 (top h) (fst d) 0).val < 16 from h.isLt), dif_pos (show (ix2 (top h) (fst d) 1).val < 128 from d.isLt)]
  rfl

theorem thirds_low (a b : Vec Ideal S16x128 .f32) (e : Vec Ideal S16x256 .f32) (h : Fin 16) (d : Fin 256) : thirds a b e (ix2 (low h) d) = e (ix2 h d) := by
  unfold thirds
  rw [dif_neg (show ¬ (ix2 (low h) d 0).val < 16 by show ¬ 16 + h.val < 16; omega)]
  exact congrArg e (congrArg (fun i => ix2 i d) (Fin.ext (by show 16 + h.val - 16 = h.val; omega)))

/-- The new token's score with query row `h`. -/
def newScore (h : Fin 16) : EReal :=
  dot (fun d => x2 (ix3 0 h d)) (x0 (ix1 0)) fun d => codesK (F := Ideal) x1 x3 (ix3 0 0 d)
/-- The new token's value. -/
def newValue (d : Fin 128) : EReal := codesV (F := Ideal) x1 x4 (ix3 0 0 d) * x0 (ix1 1)

/-- A batch starts with the new token alone in one half and nothing in the other. -/
theorem start_good (kc vc : ℕ → Fin 128 → EReal) :
    Good x2 (x0 (ix1 0)) (x0 (ix1 1)) kc vc (newScore x0 x1 x2 x3) (newValue x0 x1 x4) 0 (start (F := Ideal) x0 x1 x2 x3 x4) := by
  have hs (h : Fin 16) (j : Fin 128) : (start (F := Ideal) x0 x1 x2 x3 x4).m (ix2 (top h) j) = newScore x0 x1 x2 x3 h := by
    refine (halves_top _ _ h j).trans ((newScore_apply _ x2 _ h j).trans ?_)
    unfold newScore dot
    refine congrArg (· * _) (Finset.sum_congr rfl fun d _ => ?_)
    show _ = x2 (ix3 0 h d) * (codesK (F := Ideal) x1 x3 (ix3 0 0 d) * x0 (ix1 0))
    rw [stored_codesK, codesK_apply]
  have hb (h : Fin 16) (j : Fin 128) : (start (F := Ideal) x0 x1 x2 x3 x4).m (ix2 (low h) j) = ⊥ :=
    (halves_low _ _ h j).trans negInf
  have hl (h : Fin 16) (j : Fin 128) : (start (F := Ideal) x0 x1 x2 x3 x4).l (ix2 (top h) j) = if j.val = 0 then 1 else 0 :=
    (halves_top _ _ h j).trans ((congrFun (shapeCast_self _ _) _).trans (count_apply h j))
  have hl' (h : Fin 16) (j : Fin 128) : (start (F := Ideal) x0 x1 x2 x3 x4).l (ix2 (low h) j) = 0 :=
    (halves_low _ _ h j).trans ((congrFun (shapeCast_self (k0_pay7 (F := Ideal)) _) (ix2 h j)).trans Ideal.ofBits_zero_f32)
  have ha (h : Fin 16) (d : Fin 128) : (start (F := Ideal) x0 x1 x2 x3 x4).acc (ix2 (top h) (fst d)) = newValue x0 x1 x4 d := by
    refine (thirds_fst _ _ _ h d).trans ((congrFun (shapeCast_self _ _) _).trans ((broadcastTo_1b_ab_apply _ _ h d).trans ((congrFun (shapeCast_self _ _) _).trans ?_)))
    unfold newValue
    rw [stored_codesV, ← codesV_apply]
    rfl
  have ha' (h : Fin 16) (d : Fin 128) : (start (F := Ideal) x0 x1 x2 x3 x4).acc (ix2 (low h) (snd d)) = 0 :=
    (thirds_low _ _ _ h (snd d)).trans Ideal.ofBits_zero_f32
  constructor
  · intro h
    refine ⟨fun j => (hs h j).trans (hs h 0).symm, fun j d => ?_⟩
    rw [hs, hl, ha]
    exact Inv.start _ _ _ _ _ _ _ _
  · intro h
    refine ⟨fun j => (hb h j).trans (hb h 0).symm, fun j d => ?_⟩
    rw [hb, hl', ha']
    exact Inv.start _ _ _ _ _ _ _ _

end Start

/-- The result of a batch from the state after its 32 chunks. -/
theorem merged_apply {x : Vec Ideal S1x16x128 .bf16} {ks vs : EReal} {kc vc : ℕ → Fin 128 → EReal} {s0 : Fin 16 → EReal} {v0 : Fin 128 → EReal} {st : St Ideal}
    (G : Good x ks vs kc vc s0 v0 32 st) (h : Fin 16) (d : Fin 128) :
    ∃ M, Largest (score (fun d => x (ix3 0 h d)) ks kc) (s0 h) M
      ∧ merged (F := Ideal) st (ix3 0 h d) = attend (score (fun d => x (ix3 0 h d)) ks kc) (value vs vc d) (s0 h) (v0 d) M := by
  have A := fun j => (G.top h).inv j d
  have B := fun j => (G.low h).inv j d
  refine ⟨max (st.m (ix2 (top h) 0)) (st.m (ix2 (low h) 0)), merged_max (A 0) (B 0), ?_⟩
  have win (y : Vec Ideal S32x128 .f32) (j : Fin 128) : VecWindow.window (s := S32x128) y ![0, 0] S16x128.size inb_S32x128_S16x128_0_0 (ix2 h j) = y (ix2 (top h) j) :=
    congrArg y (funext fun a => Fin.ext (match a with
      | ⟨0, _⟩ => by show 0 + 1 * h.val = h.val; omega
      | ⟨1, _⟩ => by show 0 + 1 * j.val = j.val; omega))
  have win' (y : Vec Ideal S32x128 .f32) (j : Fin 128) : VecWindow.window (s := S32x128) y ![16, 0] S16x128.size inb_S32x128_S16x128_16_0 (ix2 h j) = y (ix2 (low h) j) :=
    congrArg y (funext fun a => Fin.ext (match a with
      | ⟨0, _⟩ => by show 16 + 1 * h.val = 16 + h.val; omega
      | ⟨1, _⟩ => by show 0 + 1 * j.val = j.val; omega))
  have wina : VecWindow.window (s := S32x256) st.acc ![0, 0] S16x128.size inb_S32x256_S16x128_0_0 (ix2 h d) = st.acc (ix2 (top h) (fst d)) :=
    congrArg st.acc (funext fun a => Fin.ext (match a with
      | ⟨0, _⟩ => by show 0 + 1 * h.val = h.val; omega
      | ⟨1, _⟩ => by show 0 + 1 * d.val = d.val; omega))
  have wina' : VecWindow.window (s := S32x256) st.acc ![16, 128] S16x128.size inb_S32x256_S16x128_16_128 (ix2 h d) = st.acc (ix2 (low h) (snd d)) :=
    congrArg st.acc (funext fun a => Fin.ext (match a with
      | ⟨0, _⟩ => by show 16 + 1 * h.val = 16 + h.val; omega
      | ⟨1, _⟩ => by show 128 + 1 * d.val = 128 + d.val; omega))
  unfold merged k0_pay1
  refine (shapeCast_ab_1ab_apply _ _ 0 h d).trans ?_
  refine (divf_apply _ _ _).trans ?_
  unfold attend
  refine congrArg₂ Ideal.div ?_ ?_
  · refine (congrArg₂ (· + ·) (congrArg₂ (· * ·) wina (congrArg₂ wt (win st.m d) (congrArg₂ max (win st.m d) (win' st.m d))))
      (congrArg₂ (· * ·) wina' (congrArg₂ wt (win' st.m d) (congrArg₂ max (win st.m d) (win' st.m d))))).trans ?_
    rw [(G.top h).uniform d, (G.low h).uniform d]
    exact merged_acc (A 0) (B 0)
  · refine (column_apply _ h d).trans ((rowSum_apply _ h 0).trans ?_)
    refine (Finset.sum_congr rfl fun j _ => (congrArg₂ (· + ·) (congrArg₂ (· * ·) (win st.l j) (congrArg₂ wt (win st.m j) (congrArg₂ max (win st.m j) (win' st.m j))))
      (congrArg₂ (· * ·) (win' st.l j) (congrArg₂ wt (win' st.m j) (congrArg₂ max (win st.m j) (win' st.m j)))))).trans ?_
    have e := merged_sum (l := fun j => if hj : j < 128 then st.l (ix2 (top h) ⟨j, hj⟩) else 0) (l' := fun j => if hj : j < 128 then st.l (ix2 (low h) ⟨j, hj⟩) else 0)
      (fun j hj => by rw [dif_pos hj]; exact A ⟨j, hj⟩) (fun j hj => by rw [dif_pos hj]; exact B ⟨j, hj⟩)
    refine Eq.trans ?_ e
    rw [Finset.sum_range]
    refine Finset.sum_congr rfl fun j _ => ?_
    rw [dif_pos j.isLt, dif_pos j.isLt, (G.top h).uniform j, (G.low h).uniform j]

end Cert.KernelIdeal.Batch

end
-- ==== Proof.Reshapes.lean ====
module

public import Idealize.ShloMosaic.Lib.ValueLayout

/-! The reshapes of the arguments, at an index. -/

@[expose] public section

namespace Cert.Reshapes

open Idealize.ShloMosaic Idealize.ShloMosaic.ValueIdx

/-- The column of the activations that holds entry `d` of query row `h`. -/
def column (h : Fin 16) (d : Fin 128) : Fin 2048 := ⟨128 * h.val + d.val, by omega⟩

/-- The activations cut into 16 query rows. -/
theorem rows_apply {α : Type} (x : (⟨3, ![16, 1, 2048]⟩ : Shape).Idx → α) (w : (⟨3, ![16, 1, 2048]⟩ : Shape).ShapeCasts ⟨3, ![16, 16, 128]⟩)
    (b h : Fin 16) (d : Fin 128) : shapeCast ⟨3, ![16, 16, 128]⟩ x w (ix3 b h d) = x (ix3 b 0 (column h d)) :=
  shapeCast_apply x w _ _ (by
    rw [Shape.rowMajor_val_three, Shape.rowMajor_val_three]
    show (b.val * 1 + 0) * 2048 + (128 * h.val + d.val) = (b.val * 16 + h.val) * 128 + d.val
    omega)

/-- A new token's key or value, its two unit axes made one. -/
theorem token_apply {α : Type} (x : (⟨4, ![16, 1, 1, 128]⟩ : Shape).Idx → α) (w : (⟨4, ![16, 1, 1, 128]⟩ : Shape).ShapeCasts ⟨3, ![16, 1, 128]⟩)
    (b : Fin 16) (d : Fin 128) : shapeCast ⟨3, ![16, 1, 128]⟩ x w (ix3 b 0 d) = x (ix4 b 0 0 d) :=
  shapeCast_apply x w _ _ (by
    rw [Shape.rowMajor_val_three, Shape.rowMajor_val_four]
    show ((b.val * 1 + 0) * 1 + 0) * 128 + d.val = (b.val * 1 + 0) * 128 + d.val
    omega)

/-- A cache, its unit axis dropped. -/
theorem cache_apply {α : Type} (x : (⟨4, ![16, 65536, 1, 128]⟩ : Shape).Idx → α)
    (w : (⟨4, ![16, 65536, 1, 128]⟩ : Shape).ShapeCasts ⟨3, ![16, 65536, 128]⟩)
    (b : Fin 16) (k : Fin 65536) (d : Fin 128) : shapeCast ⟨3, ![16, 65536, 128]⟩ x w (ix3 b k d) = x (ix4 b k 0 d) :=
  shapeCast_apply x w _ _ (by
    rw [Shape.rowMajor_val_three, Shape.rowMajor_val_four]
    show ((b.val * 65536 + k.val) * 1 + 0) * 128 + d.val = (b.val * 65536 + k.val) * 128 + d.val
    omega)

end Cert.Reshapes
-- ==== Proof.Inputs.lean ====
module

public import proofs.«01_k».proof.Proof.State
public import proofs.«01_k».proof.Proof.Reshapes
public import Idealize.ShloMosaic.Lib.Claim
public import Idealize.ShloMosaic.Lib.Pipeline.ValueKit.Geometry

/-! What the blocks a grid point is handed hold, in terms of the arguments. -/

@[expose] public section

noncomputable section

namespace Cert.KernelIdeal.Inputs

open Cert.KernelIdeal Cert.KernelIdeal.Gen Cert.KernelIdeal.State
open Idealize.ShloMosaic Idealize.ShloMosaic.TcCoe Idealize.ShloMosaic.Tactic Idealize.ShloMosaic.ValueIdx

variable {F : FTy → Type} [FloatOps F] (m : (ℓ : Loc nD τ sig) → Buf (Elt F) ℓ) (c : Dev nD)

/-- The block of every window at every point: point `t` belongs to batch `t / 4` and holds its part `t % 4` of the tokens. -/
theorem idx : ∀ t : Fin cfg0.N, win0_0.index t = ![0] ∧ win0_1.index t = ![0] ∧ win0_2.index t = ![t.val / 4, 0, 0]
    ∧ win0_3.index t = ![t.val / 4, 0, 0] ∧ win0_4.index t = ![t.val / 4, 0, 0] ∧ win0_5.index t = ![t.val / 4, t.val % 4, 0]
    ∧ win0_6.index t = ![t.val / 4, t.val % 4, 0] ∧ win0_7.index t = ![t.val / 4, 0, 0] ∧ win0_8.index t = ![t.val / 4, 0, 0]
    ∧ win0_9.index t = ![t.val / 4, 0, 0] :=
  (by decide +kernel : ∀ t : Fin grid0.N, win0_0.index t = ![0] ∧ win0_1.index t = ![0] ∧ win0_2.index t = ![t.val / 4, 0, 0]
    ∧ win0_3.index t = ![t.val / 4, 0, 0] ∧ win0_4.index t = ![t.val / 4, 0, 0] ∧ win0_5.index t = ![t.val / 4, t.val % 4, 0]
    ∧ win0_6.index t = ![t.val / 4, t.val % 4, 0] ∧ win0_7.index t = ![t.val / 4, 0, 0] ∧ win0_8.index t = ![t.val / 4, 0, 0]
    ∧ win0_9.index t = ![t.val / 4, 0, 0])

/-- The batch of a point. -/
def batch (t : Fin cfg0.N) : Fin 16 := ⟨t.val / 4, by have : t.val < 64 := Nat.lt_of_lt_of_eq t.isLt N_0; omega⟩

/-- The token a point's row `i` is. -/
def token (t : Fin cfg0.N) (i : Fin 16384) : Fin 65536 := ⟨16384 * (t.val % 4) + i.val, by omega⟩

/-- The two words of the scales, as one array of two. -/
theorem words_eq : V m c main_v0 = concatenate S2 0 [⟨S1, m ((c : Thread nD τ).loc main_arg4)⟩, ⟨S1, m ((c : Thread nD τ).loc main_arg6)⟩] concatenates_S1_S1_S2_d0 := by
  entry_read
  rfl

/-- The two scales: the words read as floats. -/
theorem scales_eq : V m c main_v1 = bitcastToFloat .f32 (concatenate S2 0 [⟨S1, m ((c : Thread nD τ).loc main_arg4)⟩, ⟨S1, m ((c : Thread nD τ).loc main_arg6)⟩] concatenates_S1_S1_S2_d0) := by
  entry_read
  rfl

theorem query_eq : V m c main_v2 = shapeCast S16x16x128 (m ((c : Thread nD τ).loc main_arg0)) shapeCasts_S16x1x2048_S16x16x128 := by
  entry_read
  rfl

theorem newKey_eq : V m c main_v3 = shapeCast S16x1x128 (m ((c : Thread nD τ).loc main_arg1)) shapeCasts_S16x1x1x128_S16x1x128 := by
  entry_read
  rfl

theorem newVal_eq : V m c main_v4 = shapeCast S16x1x128 (m ((c : Thread nD τ).loc main_arg2)) shapeCasts_S16x1x1x128_S16x1x128 := by
  entry_read
  rfl

theorem keys_eq : V m c main_v5 = shapeCast S16x65536x128 (m ((c : Thread nD τ).loc main_arg3)) shapeCasts_S16x65536x1x128_S16x65536x128 := by
  entry_read
  rfl

theorem vals_eq : V m c main_v6 = shapeCast S16x65536x128 (m ((c : Thread nD τ).loc main_arg5)) shapeCasts_S16x65536x1x128_S16x65536x128 := by
  entry_read
  rfl

theorem pair_fst {α : Type} (a b : S1.Idx → α) : concatenate S2 0 [⟨S1, a⟩, ⟨S1, b⟩] concatenates_S1_S1_S2_d0 (ix1 0) = a (ix1 0) :=
  concatenate_pair_apply_left (0 : Fin S2.rank) a b concatenates_S1_S1_S2_d0 (ix1 0) rfl (ix1 0) (fun i => match i with
    | ⟨0, _⟩ => rfl)

theorem pair_snd {α : Type} (a b : S1.Idx → α) : concatenate S2 0 [⟨S1, a⟩, ⟨S1, b⟩] concatenates_S1_S1_S2_d0 (ix1 1) = b (ix1 0) :=
  concatenate_pair_apply_right (0 : Fin S2.rank) a b concatenates_S1_S1_S2_d0 (ix1 1) rfl rfl (ix1 0) (fun i hi => match i with
    | ⟨0, _⟩ => absurd rfl hi) rfl

theorem word_at (t : Fin cfg0.N) (i : Fin 2) : b1 m c t (ix1 i) = V m c main_v0 (ix1 i) := by
  obtain ⟨-, e, -⟩ := idx t
  blk_ext [b1, iblk, e]

theorem scale_at (t : Fin cfg0.N) (i : Fin 2) : b0 m c t (ix1 i) = V m c main_v1 (ix1 i) := by
  obtain ⟨e, -⟩ := idx t
  blk_ext [b0, iblk, e]

/-- The word of the keys' scale. -/
theorem word_k (t : Fin cfg0.N) : b1 m c t (ix1 0) = m ((c : Thread nD τ).loc main_arg4) (ix1 0) := by
  rw [word_at, words_eq, pair_fst]

/-- The word of the values' scale. -/
theorem word_v (t : Fin cfg0.N) : b1 m c t (ix1 1) = m ((c : Thread nD τ).loc main_arg6) (ix1 0) := by
  rw [word_at, words_eq, pair_snd]

/-- The keys' scale. -/
theorem scale_k (t : Fin cfg0.N) : b0 m c t (ix1 0) = FloatOps.ofBits .f32 (m ((c : Thread nD τ).loc main_arg4) (ix1 0)) := by
  rw [scale_at, scales_eq]
  exact congrArg (FloatOps.ofBits .f32) (pair_fst _ _)

/-- The values' scale. -/
theorem scale_v (t : Fin cfg0.N) : b0 m c t (ix1 1) = FloatOps.ofBits .f32 (m ((c : Thread nD τ).loc main_arg6) (ix1 0)) := by
  rw [scale_at, scales_eq]
  exact congrArg (FloatOps.ofBits .f32) (pair_snd _ _)

/-- Query row `h` of a point's batch. -/
theorem query (t : Fin cfg0.N) (h : Fin 16) (d : Fin 128) :
    b2 m c t (ix3 0 h d) = m ((c : Thread nD τ).loc main_arg0) (ix3 (batch t) 0 (Reshapes.column h d)) := by
  have e : b2 m c t (ix3 0 h d) = V m c main_v2 (ix3 (batch t) h d) := by
    obtain ⟨-, -, e, -⟩ := idx t
    blk_ext [b2, iblk, e, batch]
  rw [e, query_eq]
  exact Reshapes.rows_apply _ _ _ _ _

/-- The new key of a point's batch. -/
theorem newKey (t : Fin cfg0.N) (d : Fin 128) : b3 m c t (ix3 0 0 d) = m ((c : Thread nD τ).loc main_arg1) (ix4 (batch t) 0 0 d) := by
  have e : b3 m c t (ix3 0 0 d) = V m c main_v3 (ix3 (batch t) 0 d) := by
    obtain ⟨-, -, -, e, -⟩ := idx t
    blk_ext [b3, iblk, e, batch]
  rw [e, newKey_eq]
  exact Reshapes.token_apply _ _ _ _

/-- The new value of a point's batch. -/
theorem newVal (t : Fin cfg0.N) (d : Fin 128) : b4 m c t (ix3 0 0 d) = m ((c : Thread nD τ).loc main_arg2) (ix4 (batch t) 0 0 d) := by
  have e : b4 m c t (ix3 0 0 d) = V m c main_v4 (ix3 (batch t) 0 d) := by
    obtain ⟨-, -, -, -, e, -⟩ := idx t
    blk_ext [b4, iblk, e, batch]
  rw [e, newVal_eq]
  exact Reshapes.token_apply _ _ _ _

/-- A point's key codes: its quarter of the batch's cache. -/
theorem keys (t : Fin cfg0.N) (i : Fin 16384) (d : Fin 128) :
    b5 m c t (ix3 0 i d) = m ((c : Thread nD τ).loc main_arg3) (ix4 (batch t) (token t i) 0 d) := by
  have e : b5 m c t (ix3 0 i d) = V m c main_v5 (ix3 (batch t) (token t i) d) := by
    obtain ⟨-, -, -, -, -, e, -⟩ := idx t
    blk_ext [b5, iblk, e, batch, token]
    show t.val % 4 * 16384 + i.val = 16384 * (t.val % 4) + i.val
    omega
  rw [e, keys_eq]
  exact Reshapes.cache_apply _ _ _ _ _

/-- A point's value codes: its quarter of the batch's cache. -/
theorem vals (t : Fin cfg0.N) (i : Fin 16384) (d : Fin 128) :
    b6 m c t (ix3 0 i d) = m ((c : Thread nD τ).loc main_arg5) (ix4 (batch t) (token t i) 0 d) := by
  have e : b6 m c t (ix3 0 i d) = V m c main_v6 (ix3 (batch t) (token t i) d) := by
    obtain ⟨-, -, -, -, -, -, e, -⟩ := idx t
    blk_ext [b6, iblk, e, batch, token]
    show t.val % 4 * 16384 + i.val = 16384 * (t.val % 4) + i.val
    omega
  rw [e, vals_eq]
  exact Reshapes.cache_apply _ _ _ _ _

end Cert.KernelIdeal.Inputs

end
-- ==== Proof.Result.lean ====
module

public import proofs.«01_k».proof.Proof.Batch
public import proofs.«01_k».proof.Proof.Inputs
public import proofs.«01_k».proof.Proof.Body

/-! What the kernel leaves in its three results, in terms of its arguments, over the extended reals. -/

@[expose] public section

set_option maxRecDepth 16384

noncomputable section

namespace Cert.KernelIdeal.Result

open Cert.KernelIdeal Cert.KernelIdeal.Gen Cert.KernelIdeal.State Cert.KernelIdeal.Body Cert.KernelIdeal.Run Cert.KernelIdeal.Chunk Cert.KernelIdeal.Batch
open Cert.KernelIdeal.Inputs Cert.Online
open Idealize.ShloMosaic Idealize.ShloMosaic.TcCoe Idealize.ShloMosaic.Tactic Idealize.ShloMosaic.ValueIdx

variable (m : (ℓ : Loc nD τ sig) → Buf (Elt Ideal) ℓ) (c : Dev nD)

/-- The words of the two scales. -/
abbrev wordK : BitVec 32 := m ((c : Thread nD τ).loc main_arg4) (ix1 0)
@[inherit_doc wordK] abbrev wordV : BitVec 32 := m ((c : Thread nD τ).loc main_arg6) (ix1 0)
/-- A batch's query row. -/
def row (b h : Fin 16) (d : Fin 128) : EReal := m ((c : Thread nD τ).loc main_arg0) (ix3 b 0 (Reshapes.column h d))
/-- A batch's query rows, as a block. -/
def rows (b : Fin 16) : Vec Ideal S1x16x128 .bf16 := fun y => row m c b (y 1) (y 2)
/-- The codes of a batch's new key. -/
def newK (b : Fin 16) (d : Fin 128) : EReal :=
  quant (Ideal.ofBits .f32 (Scales.asPattern (Scales.biased (wordK m c)))) (m ((c : Thread nD τ).loc main_arg1) (ix4 b 0 0 d))
/-- The codes of a batch's new value. -/
def newV (b : Fin 16) (d : Fin 128) : EReal :=
  quant (Ideal.ofBits .f32 (Scales.asPattern (Scales.biased (wordV m c)))) (m ((c : Thread nD τ).loc main_arg2) (ix4 b 0 0 d))
/-- A batch's cached key codes. -/
def keysOf (b : Fin 16) : ℕ → Fin 128 → EReal := codes fun k d => m ((c : Thread nD τ).loc main_arg3) (ix4 b k 0 d)
/-- A batch's cached value codes. -/
def valsOf (b : Fin 16) : ℕ → Fin 128 → EReal := codes fun k d => m ((c : Thread nD τ).loc main_arg5) (ix4 b k 0 d)

/-- A function of a block with a unit first axis, read with that coordinate at zero. -/
theorem unit_first {α : Type} {a b : ℕ} (y : (⟨3, ![1, a, b]⟩ : Shape).Idx) (f : (⟨3, ![1, a, b]⟩ : Shape).Idx → α) : f y = f (ix3 0 (y 1) (y 2)) := by
  have h : (y 0 : Fin 1) = (0 : Fin 1) := Subsingleton.elim (α := Fin 1) _ _
  exact congrArg f ((eq_ix3 y).trans (congrArg (fun e : Fin 1 => ix3 e (y 1) (y 2)) h))

/-- The same with two unit axes. -/
theorem unit_both {α : Type} {b : ℕ} (y : (⟨3, ![1, 1, b]⟩ : Shape).Idx) (f : (⟨3, ![1, 1, b]⟩ : Shape).Idx → α) : f y = f (ix3 0 0 (y 2)) := by
  have h : (y 1 : Fin 1) = (0 : Fin 1) := Subsingleton.elim (α := Fin 1) _ _
  exact (unit_first y f).trans (congrArg (fun e : Fin 1 => f (ix3 0 e (y 2))) h)

theorem rows_at (t : Fin cfg0.N) : b2 m c t = rows m c (batch t) := by
  funext y
  exact (unit_first (a := 16) (b := 128) y (b2 m c t)).trans (query m c t (y 1) (y 2))

theorem codesK_at (t : Fin cfg0.N) (d : Fin 128) : codesK (F := Ideal) (b1 m c t) (b3 m c t) (ix3 0 0 d) = newK m c (batch t) d := by
  rw [stored_codesK, word_k, newKey]
  rfl

theorem codesV_at (t : Fin cfg0.N) (d : Fin 128) : codesV (F := Ideal) (b1 m c t) (b4 m c t) (ix3 0 0 d) = newV m c (batch t) d := by
  rw [stored_codesV, word_v, newVal]
  rfl

/-- A batch's state after `n` chunks is what the streaming softmax of its tokens says. -/
abbrev GoodAt (b : Fin 16) (n : ℕ) (st : Sweep.St Ideal) : Prop :=
  Good (rows m c b) (Ideal.ofBits .f32 (wordK m c)) (Ideal.ofBits .f32 (wordV m c)) (keysOf m c b) (valsOf m c b)
    (fun h => dot (row m c b h) (Ideal.ofBits .f32 (wordK m c)) (newK m c b)) (fun d => newV m c b d * Ideal.ofBits .f32 (wordV m c)) n st

theorem scaleK_at (t : Fin cfg0.N) : b0 m c t (ix1 0) = Ideal.ofBits .f32 (wordK m c) := scale_k m c t
theorem scaleV_at (t : Fin cfg0.N) : b0 m c t (ix1 1) = Ideal.ofBits .f32 (wordV m c) := scale_v m c t

section
variable (hK : Scales.Ok (wordK m c)) (hV : Scales.Ok (wordV m c))
include hK hV

/-- A point takes its eight chunks. -/
theorem sweepAt_good (t : Fin cfg0.N) (st : Sweep.St Ideal) (G : GoodAt m c (batch t) (8 * (t.val % 4)) st) :
    GoodAt m c (batch t) (8 * (t.val % 4) + 8) (sweepAt m c t st) := by
  have G' := G
  unfold GoodAt at G' ⊢
  rw [← rows_at, ← scaleK_at m c t, ← scaleV_at m c t] at G' ⊢
  refine Good.sweep (t.val % 4) (b0 m c t) (b1 m c t) (b5 m c t) (b6 m c t) ?_ ?_ ?_ ?_ (fun i d => ?_) (fun i d => ?_) G'
  · rw [scaleK_at]; exact hK.nonneg
  · rw [scaleK_at]; exact hK.ne_top
  · rw [scaleV_at]; exact hV.nonneg
  · rw [scaleV_at]; exact hV.ne_top
  · rw [keys]; exact (codes_lt (fun k d => m ((c : Thread nD τ).loc main_arg3) (ix4 (batch t) k 0 d)) (token t i) d).symm
  · rw [vals]; exact (codes_lt (fun k d => m ((c : Thread nD τ).loc main_arg5) (ix4 (batch t) k 0 d)) (token t i) d).symm

/-- A batch's first point starts with the new token alone. -/
theorem startAt_good (t : Fin cfg0.N) : GoodAt m c (batch t) 0 (startAt m c t) := by
  have G := start_good (b0 m c t) (b1 m c t) (b2 m c t) (b3 m c t) (b4 m c t) (keysOf m c (batch t)) (valsOf m c (batch t))
  have hs : newScore (b0 m c t) (b1 m c t) (b2 m c t) (b3 m c t) = fun h => dot (row m c (batch t) h) (Ideal.ofBits .f32 (wordK m c)) (newK m c (batch t)) := by
    funext h
    unfold newScore
    rw [rows_at, scaleK_at]
    exact congrArg (dot _ _) (funext fun d => codesK_at m c t d)
  have hv : newValue (b0 m c t) (b1 m c t) (b4 m c t) = fun d => newV m c (batch t) d * Ideal.ofBits .f32 (wordV m c) := by
    funext d
    unfold newValue
    rw [codesV_at, scaleV_at]
  rw [hs, hv, rows_at, scaleK_at, scaleV_at] at G
  unfold GoodAt startAt
  rw [← rows_at m c t] at G ⊢
  exact G

/-- After every point the state is that of the chunks its batch has taken. -/
theorem stateAt_good : ∀ (n : ℕ) (hn : n < cfg0.N), GoodAt m c (batch ⟨n, hn⟩) (8 * (n % 4) + 8) (stateAt m c n hn) := by
  intro n
  induction n with
  | zero =>
    intro hn
    rw [stateAt_start m c ⟨0, hn⟩ rfl]
    exact sweepAt_good m c hK hV ⟨0, hn⟩ _ (startAt_good m c hK hV ⟨0, hn⟩)
  | succ n ih =>
    intro hn
    by_cases h : (n + 1) % 4 = 0
    · rw [stateAt_start m c ⟨n + 1, hn⟩ h]
      refine sweepAt_good m c hK hV ⟨n + 1, hn⟩ _ ?_
      show GoodAt m c _ (8 * ((n + 1) % 4)) _
      rw [h]
      exact startAt_good m c hK hV ⟨n + 1, hn⟩
    · rw [stateAt_step m c ⟨n + 1, hn⟩ h]
      refine sweepAt_good m c hK hV ⟨n + 1, hn⟩ _ ?_
      have hb : batch ⟨n + 1, hn⟩ = batch ⟨n, Nat.lt_of_succ_lt hn⟩ := Fin.ext (by show (n + 1) / 4 = n / 4; omega)
      have hc : 8 * ((n + 1) % 4) = 8 * (n % 4) + 8 := by omega
      show GoodAt m c _ (8 * ((n + 1) % 4)) _
      rw [hb, hc]
      exact ih (Nat.lt_of_succ_lt hn)

end

/-! ## The result arrays -/

/-- The point that ends a batch. -/
def lastOf (b : Fin 16) : Fin cfg0.N := ⟨4 * b.val + 3, by have := N_0; show _ < grid0.N; omega⟩

/-- The attention, batch by batch. -/
def attention : Vec Ideal S16x16x128 .bf16 := fun i => leaves7 m c (lastOf (i 0)) (ix3 0 (i 1) (i 2))
/-- The new keys' codes. -/
def keyCodes : Vec Ideal S16x1x128 .fp8e4m3 := fun i => newK m c (i 0) (i 2)
/-- The new values' codes. -/
def valCodes : Vec Ideal S16x1x128 .fp8e4m3 := fun i => newV m c (i 0) (i 2)

theorem batch_firstOf (t : Fin cfg0.N) : batch (firstOf t) = batch t := Fin.ext (by show (t.val - t.val % 4) / 4 = t.val / 4; omega)

theorem last_batch (t : Fin cfg0.N) (h : t.val % 4 = 3) : lastOf (batch t) = t := Fin.ext (by show 4 * (t.val / 4) + 3 = t.val; omega)

/-- Result 1 after the run. -/
theorem arr7 : (dats m 0 c).arrAt 7 (cfgs 0).N = attention m c := by
  refine (dats m 0 c).arrAt_eq_of_covers 7 _ (by decide +kernel) fun t hf y => ?_
  blk_simp
  rw [after0_7]
  have hy : ((View.whole main_v7_0).slice (win0_7.rect t)).emb y = ix3 (batch t) (y 1) (y 2) := by
    obtain ⟨-, -, -, -, -, -, -, e, -⟩ := idx t
    blk_ext [e, batch]
  rw [hy]
  refine (unit_first (a := 16) (b := 128) y (leaves7 m c t)).trans ?_
  show _ = leaves7 m c (lastOf (batch t)) (ix3 0 (y 1) (y 2))
  rw [last_batch t ((flush0_7 t).mp hf)]

/-- Result 2 after the run. -/
theorem arr8 : (dats m 0 c).arrAt 8 (cfgs 0).N = keyCodes m c := by
  refine (dats m 0 c).arrAt_eq_of_covers 8 _ (by decide +kernel) fun t hf y => ?_
  blk_simp
  rw [after0_8]
  have hy : ((View.whole main_v7_1).slice (win0_8.rect t)).emb y = ix3 (batch t) 0 (y 2) := by
    obtain ⟨-, -, -, -, -, -, -, -, e, -⟩ := idx t
    blk_ext [e, batch]
  rw [hy]
  refine (unit_both (b := 128) y (leaves8 m c t)).trans ((codesK_at m c (firstOf t) (y 2)).trans ?_)
  rw [batch_firstOf]
  rfl

/-- Result 3 after the run. -/
theorem arr9 : (dats m 0 c).arrAt 9 (cfgs 0).N = valCodes m c := by
  refine (dats m 0 c).arrAt_eq_of_covers 9 _ (by decide +kernel) fun t hf y => ?_
  blk_simp
  rw [after0_9]
  have hy : ((View.whole main_v7_2).slice (win0_9.rect t)).emb y = ix3 (batch t) 0 (y 2) := by
    obtain ⟨-, -, -, -, -, -, -, -, -, e⟩ := idx t
    blk_ext [e, batch]
  rw [hy]
  refine (unit_both (b := 128) y (leaves9 m c t)).trans ((codesV_at m c (firstOf t) (y 2)).trans ?_)
  rw [batch_firstOf]
  rfl

/-- The attention at an index. -/
theorem attention_apply (hK : Scales.Ok (wordK m c)) (hV : Scales.Ok (wordV m c)) (b h : Fin 16) (d : Fin 128) :
    ∃ M, Largest (score (row m c b h) (Ideal.ofBits .f32 (wordK m c)) (keysOf m c b)) (dot (row m c b h) (Ideal.ofBits .f32 (wordK m c)) (newK m c b)) M
      ∧ attention m c (ix3 b h d)
        = attend (score (row m c b h) (Ideal.ofBits .f32 (wordK m c)) (keysOf m c b)) (value (Ideal.ofBits .f32 (wordV m c)) (valsOf m c b) d)
          (dot (row m c b h) (Ideal.ofBits .f32 (wordK m c)) (newK m c b)) (newV m c b d * Ideal.ofBits .f32 (wordV m c)) M := by
  have G := stateAt_good m c hK hV (lastOf b).val (lastOf b).isLt
  have hb : batch (lastOf b) = b := Fin.ext (by show (4 * b.val + 3) / 4 = b.val; omega)
  have hn : 8 * ((lastOf b).val % 4) + 8 = 32 := by show 8 * ((4 * b.val + 3) % 4) + 8 = 32; omega
  rw [hn, show batch ⟨(lastOf b).val, (lastOf b).isLt⟩ = b from hb] at G
  exact merged_apply G h d

end Cert.KernelIdeal.Result

end
-- ==== Proof.RefArr.lean ====
module

public import proofs.«01_k».proof.Proof.Gen.ReferenceIdeal.Value
public import proofs.«01_k».proof.Proof.Reshapes
public import Idealize.ShloMosaic.Lib.Claim
public import Idealize.ShloMosaic.Lib.Pipeline.ValueKit.Geometry
public import Idealize.ShloMosaic.Lib.Pipeline.ValueKit.Acc
public import Idealize.ShloMosaic.Lib.Pipeline.ReadBack

/-! What the reference leaves in its three results, as terms over its arguments. -/

@[expose] public section

set_option maxRecDepth 16384

noncomputable section

namespace Cert.ReferenceIdeal.Arrays

open Cert.ReferenceIdeal Cert.ReferenceIdeal.Gen
open Idealize.ShloMosaic Idealize.ShloMosaic.TcCoe Idealize.ShloMosaic.Tactic Idealize.ShloMosaic.ValueIdx

variable {F : FTy → Type} [FloatOps F] (m : (ℓ : Loc nD τ sig) → Buf (Elt F) ℓ) (c : Dev nD)

/-- Every window's block is its whole array. -/
theorem idx : ∀ t : Fin cfg0.N, win0_0.index t = ![0] ∧ win0_1.index t = ![0] ∧ win0_2.index t = ![0, 0, 0]
    ∧ win0_3.index t = ![0, 0, 0] ∧ win0_4.index t = ![0, 0, 0] ∧ win0_5.index t = ![0, 0, 0]
    ∧ win0_6.index t = ![0, 0, 0] ∧ win0_7.index t = ![0, 0, 0] ∧ win0_8.index t = ![0, 0, 0]
    ∧ win0_9.index t = ![0, 0, 0] :=
  (by decide +kernel : ∀ t : Fin grid0.N, win0_0.index t = ![0] ∧ win0_1.index t = ![0] ∧ win0_2.index t = ![0, 0, 0]
    ∧ win0_3.index t = ![0, 0, 0] ∧ win0_4.index t = ![0, 0, 0] ∧ win0_5.index t = ![0, 0, 0]
    ∧ win0_6.index t = ![0, 0, 0] ∧ win0_7.index t = ![0, 0, 0] ∧ win0_8.index t = ![0, 0, 0]
    ∧ win0_9.index t = ![0, 0, 0])

/-- The words of the two scales. -/
abbrev wordK : BitVec 32 := m ((c : Thread nD τ).loc main_arg4) (ix1 0)
@[inherit_doc wordK] abbrev wordV : BitVec 32 := m ((c : Thread nD τ).loc main_arg6) (ix1 0)
/-- The query rows. -/
abbrev queries : Vec F S16x16x128 .bf16 := shapeCast S16x16x128 (m ((c : Thread nD τ).loc main_arg0)) shapeCasts_S16x1x2048_S16x16x128
/-- The new keys and values. -/
abbrev newKeys : Vec F S16x1x128 .bf16 := shapeCast S16x1x128 (m ((c : Thread nD τ).loc main_arg1)) shapeCasts_S16x1x1x128_S16x1x128
@[inherit_doc newKeys] abbrev newVals : Vec F S16x1x128 .bf16 := shapeCast S16x1x128 (m ((c : Thread nD τ).loc main_arg2)) shapeCasts_S16x1x1x128_S16x1x128
/-- The two caches. -/
abbrev keyCache : Vec F S16x65536x128 .fp8e4m3 := shapeCast S16x65536x128 (m ((c : Thread nD τ).loc main_arg3)) shapeCasts_S16x65536x1x128_S16x65536x128
@[inherit_doc keyCache] abbrev valCache : Vec F S16x65536x128 .fp8e4m3 := shapeCast S16x65536x128 (m ((c : Thread nD τ).loc main_arg5)) shapeCasts_S16x65536x1x128_S16x65536x128

theorem blk0 (t : Fin cfg0.N) : iblk m c 0 t = m ((c : Thread nD τ).loc main_arg4) := by
  refine Eq.trans ?_ (V_main_arg4 m c)
  funext y
  obtain ⟨e0, e1, e2, e3, e4, e5, e6, -⟩ := idx t
  blk_ext [iblk, e0]

theorem blk1 (t : Fin cfg0.N) : iblk m c 1 t = m ((c : Thread nD τ).loc main_arg6) := by
  refine Eq.trans ?_ (V_main_arg6 m c)
  funext y
  obtain ⟨e0, e1, e2, e3, e4, e5, e6, -⟩ := idx t
  blk_ext [iblk, e1]

theorem entry2 : V m c main_v0 = queries m c := by
  entry_read
  rfl

theorem blk2 (t : Fin cfg0.N) : iblk m c 2 t = queries m c := by
  rw [← entry2]
  funext y
  obtain ⟨e0, e1, e2, e3, e4, e5, e6, -⟩ := idx t
  blk_ext [iblk, e2]

theorem entry3 : V m c main_v1 = newKeys m c := by
  entry_read
  rfl

theorem blk3 (t : Fin cfg0.N) : iblk m c 3 t = newKeys m c := by
  rw [← entry3]
  funext y
  obtain ⟨e0, e1, e2, e3, e4, e5, e6, -⟩ := idx t
  blk_ext [iblk, e3]

theorem entry4 : V m c main_v2 = newVals m c := by
  entry_read
  rfl

theorem blk4 (t : Fin cfg0.N) : iblk m c 4 t = newVals m c := by
  rw [← entry4]
  funext y
  obtain ⟨e0, e1, e2, e3, e4, e5, e6, -⟩ := idx t
  blk_ext [iblk, e4]

theorem entry5 : V m c main_v3 = keyCache m c := by
  entry_read
  rfl

theorem blk5 (t : Fin cfg0.N) : iblk m c 5 t = keyCache m c := by
  rw [← entry5]
  funext y
  obtain ⟨e0, e1, e2, e3, e4, e5, e6, -⟩ := idx t
  blk_ext [iblk, e5]

theorem entry6 : V m c main_v4 = valCache m c := by
  entry_read
  rfl

theorem blk6 (t : Fin cfg0.N) : iblk m c 6 t = valCache m c := by
  rw [← entry6]
  funext y
  obtain ⟨e0, e1, e2, e3, e4, e5, e6, -⟩ := idx t
  blk_ext [iblk, e6]

/-- The reference's attention. -/
def attention : Vec F S16x16x128 .bf16 :=
  k0_pay1 (k0_pay9 (wordV m c) (valCache m c)) (k0_pay10 (k0_pay3 (newVals m c) (wordV m c)) k0_pay4 (wordV m c))
    (k0_pay11 (wordK m c) (queries m c) (keyCache m c)) (k0_pay12 (k0_pay2 (newKeys m c) (wordK m c)) (wordK m c) (queries m c))
    (k0_pay13 (wordK m c) (queries m c) (keyCache m c))
/-- The reference's codes of the new keys. -/
def keyCodes : Vec F S16x1x128 .fp8e4m3 := k0_pay2 (newKeys m c) (wordK m c)
/-- The reference's codes of the new values. -/
def valCodes : Vec F S16x1x128 .fp8e4m3 := k0_pay5 (k0_pay3 (newVals m c) (wordV m c)) k0_pay4

theorem first_one (h : 0 < S1.numel) : Shape.Idx.first h = ix1 0 := by
  funext a
  match a with
  | ⟨0, _⟩ => rfl

/-- Result 1 after the run. -/
theorem arr7 : (dats m 0 c).arrAt 7 (cfgs 0).N = attention m c := by
  refine (dats m 0 c).arrAt_eq_of_covers 7 _ (by decide +kernel) fun t hf y => ?_
  blk_simp
  rw [after0_7]
  unfold outsAt0
  dsimp only
  frame_out
  simp only [read_unread_whole]
  have hy : ((View.whole main_v5_0).slice (win0_7.rect t)).emb y = y := by
    obtain ⟨-, -, -, -, -, -, -, e7, e8, e9⟩ := idx t
    blk_ext [e7]
  simp only [blk0, blk1, blk2, blk3, blk4, blk5, blk6, first_one, hy]
  rfl

/-- Result 2 after the run. -/
theorem arr8 : (dats m 0 c).arrAt 8 (cfgs 0).N = keyCodes m c := by
  refine (dats m 0 c).arrAt_eq_of_covers 8 _ (by decide +kernel) fun t hf y => ?_
  blk_simp
  rw [after0_8]
  unfold outsAt0
  dsimp only
  frame_out
  simp only [read_unread_whole]
  have hy : ((View.whole main_v5_1).slice (win0_8.rect t)).emb y = y := by
    obtain ⟨-, -, -, -, -, -, -, e7, e8, e9⟩ := idx t
    blk_ext [e8]
  simp only [blk0, blk1, blk2, blk3, blk4, blk5, blk6, first_one, hy]
  rfl

/-- Result 3 after the run. -/
theorem arr9 : (dats m 0 c).arrAt 9 (cfgs 0).N = valCodes m c := by
  refine (dats m 0 c).arrAt_eq_of_covers 9 _ (by decide +kernel) fun t hf y => ?_
  blk_simp
  rw [after0_9]
  unfold outsAt0
  dsimp only
  frame_out
  simp only [read_unread_whole]
  have hy : ((View.whole main_v5_2).slice (win0_9.rect t)).emb y = y := by
    obtain ⟨-, -, -, -, -, -, -, e7, e8, e9⟩ := idx t
    blk_ext [e9]
  simp only [blk0, blk1, blk2, blk3, blk4, blk5, blk6, first_one, hy]
  rfl

end Cert.ReferenceIdeal.Arrays

end
-- ==== Proof.RefValue.lean ====
module

public import proofs.«01_k».proof.Proof.Gen.ReferenceIdeal.Skeleton
public import proofs.«01_k».proof.Proof.Terms
public import proofs.«01_k».proof.Proof.Scales
public import Idealize.ShloMosaic.Lib.ValueLayout
public import Idealize.ShloMosaic.Lib.ValueLayoutCasts
public import Idealize.ShloMosaic.Lib.IdealHost
public import Idealize.ShloMosaic.PureOps.Ideal.Laws

/-! What the reference's terms are at an index, over the extended reals. -/

@[expose] public section

set_option maxRecDepth 16384

noncomputable section

namespace Cert.ReferenceIdeal.Entries

open Cert.ReferenceIdeal Cert.ReferenceIdeal.Gen Cert.Online
open Idealize.ShloMosaic Idealize.ShloMosaic.ValueIdx
open scoped BigOperators

/-! ## The products -/

/-- Queries times keys: a batch's row `h` against its token `k`. -/
theorem dotKeys_apply {e₁ e₂ : FTy} (A : FVec Ideal S16x16x128 e₁) (B : FVec Ideal S16x65536x128 e₂) (acc : FVec Ideal S16x16x65536 .f32)
    (b h : Fin 16) (k : Fin 65536) :
    FloatOps.matmul (F := Ideal) dot_S16x16x128_S16x65536x128_S16x16x65536_2_2_1_1_0_0 none A B acc (ix3 b h k)
      = acc (ix3 b h k) + ∑ d : Fin 128, A (ix3 b h d) * B (ix3 b k d) := by
  have hr : dot_S16x16x128_S16x65536x128_S16x16x65536_2_2_1_1_0_0.contr.rank = 1 := rfl
  have hs : dot_S16x16x128_S16x65536x128_S16x16x65536_2_2_1_1_0_0.contr.size ⟨0, by omega⟩ = 128 := rfl
  rw [Ideal.matmul_apply, ← Equiv.sum_comp (contrEquiv1 _ 128 hr hs).symm]
  refine congrArg (acc (ix3 b h k) + ·) (Finset.sum_congr rfl fun d _ => ?_)
  have hd := contrEquiv1_symm_val _ 128 hr hs d
  refine congrArg₂ (· * ·) (congrArg A (funext fun a => Fin.ext ?_)) (congrArg B (funext fun a => Fin.ext ?_))
  · match a with
    | ⟨0, _⟩ => rfl
    | ⟨1, _⟩ => rfl
    | ⟨2, _⟩ => exact hd
  · match a with
    | ⟨0, _⟩ => rfl
    | ⟨1, _⟩ => rfl
    | ⟨2, _⟩ => exact hd

/-- Queries times the new key. -/
theorem dotNew_apply {e₁ e₂ : FTy} (A : FVec Ideal S16x16x128 e₁) (B : FVec Ideal S16x1x128 e₂) (acc : FVec Ideal S16x16x1 .f32)
    (b h : Fin 16) :
    FloatOps.matmul (F := Ideal) dot_S16x16x128_S16x1x128_S16x16x1_2_2_1_1_0_0 none A B acc (ix3 b h 0)
      = acc (ix3 b h 0) + ∑ d : Fin 128, A (ix3 b h d) * B (ix3 b 0 d) := by
  have hr : dot_S16x16x128_S16x1x128_S16x16x1_2_2_1_1_0_0.contr.rank = 1 := rfl
  have hs : dot_S16x16x128_S16x1x128_S16x16x1_2_2_1_1_0_0.contr.size ⟨0, by omega⟩ = 128 := rfl
  rw [Ideal.matmul_apply, ← Equiv.sum_comp (contrEquiv1 _ 128 hr hs).symm]
  refine congrArg (acc (ix3 b h 0) + ·) (Finset.sum_congr rfl fun d _ => ?_)
  have hd := contrEquiv1_symm_val _ 128 hr hs d
  refine congrArg₂ (· * ·) (congrArg A (funext fun a => Fin.ext ?_)) (congrArg B (funext fun a => Fin.ext ?_))
  · match a with
    | ⟨0, _⟩ => rfl
    | ⟨1, _⟩ => rfl
    | ⟨2, _⟩ => exact hd
  · match a with
    | ⟨0, _⟩ => rfl
    | ⟨1, _⟩ => rfl
    | ⟨2, _⟩ => exact hd

/-- Weights times values. -/
theorem dotVals_apply {e₁ e₂ : FTy} (A : FVec Ideal S16x16x65536 e₁) (B : FVec Ideal S16x65536x128 e₂) (acc : FVec Ideal S16x16x128 .f32)
    (b h : Fin 16) (d : Fin 128) :
    FloatOps.matmul (F := Ideal) dot_S16x16x65536_S16x65536x128_S16x16x128_2_1_1_2_0_0 none A B acc (ix3 b h d)
      = acc (ix3 b h d) + ∑ k : Fin 65536, A (ix3 b h k) * B (ix3 b k d) := by
  have hr : dot_S16x16x65536_S16x65536x128_S16x16x128_2_1_1_2_0_0.contr.rank = 1 := rfl
  have hs : dot_S16x16x65536_S16x65536x128_S16x16x128_2_1_1_2_0_0.contr.size ⟨0, by omega⟩ = 65536 := rfl
  rw [Ideal.matmul_apply, ← Equiv.sum_comp (contrEquiv1 _ 65536 hr hs).symm]
  refine congrArg (acc (ix3 b h d) + ·) (Finset.sum_congr rfl fun k _ => ?_)
  have hk := contrEquiv1_symm_val _ 65536 hr hs k
  refine congrArg₂ (· * ·) (congrArg A (funext fun a => Fin.ext ?_)) (congrArg B (funext fun a => Fin.ext ?_))
  · match a with
    | ⟨0, _⟩ => rfl
    | ⟨1, _⟩ => rfl
    | ⟨2, _⟩ => exact hk
  · match a with
    | ⟨0, _⟩ => rfl
    | ⟨1, _⟩ => exact hk
    | ⟨2, _⟩ => rfl

/-- The new token's weight times its value. -/
theorem dotNewVal_apply {e₁ e₂ : FTy} (A : FVec Ideal S16x16x1 e₁) (B : FVec Ideal S16x1x128 e₂) (acc : FVec Ideal S16x16x128 .f32)
    (b h : Fin 16) (d : Fin 128) :
    FloatOps.matmul (F := Ideal) dot_S16x16x1_S16x1x128_S16x16x128_2_1_1_2_0_0 none A B acc (ix3 b h d)
      = acc (ix3 b h d) + A (ix3 b h 0) * B (ix3 b 0 d) := by
  have hr : dot_S16x16x1_S16x1x128_S16x16x128_2_1_1_2_0_0.contr.rank = 1 := rfl
  have hs : dot_S16x16x1_S16x1x128_S16x16x128_2_1_1_2_0_0.contr.size ⟨0, by omega⟩ = 1 := rfl
  rw [Ideal.matmul_apply, ← Equiv.sum_comp (contrEquiv1 _ 1 hr hs).symm, Fin.sum_univ_one]
  refine congrArg (acc (ix3 b h d) + ·) ?_
  have hk := contrEquiv1_symm_val _ 1 hr hs 0
  refine congrArg₂ (· * ·) (congrArg A (funext fun a => Fin.ext ?_)) (congrArg B (funext fun a => Fin.ext ?_))
  · match a with
    | ⟨0, _⟩ => rfl
    | ⟨1, _⟩ => rfl
    | ⟨2, _⟩ => exact hk
  · match a with
    | ⟨0, _⟩ => rfl
    | ⟨1, _⟩ => exact hk
    | ⟨2, _⟩ => rfl

/-! ## The codes -/

/-- The new keys' codes. -/
theorem keyCodes_apply (kn : Vec Ideal S16x1x128 .bf16) (w : BitVec 32) (b : Fin 16) (d : Fin 128) :
    k0_pay2 (F := Ideal) kn w (ix3 b 0 d) = quant (Ideal.exp2 (((Scales.asPower (Scales.biased w)).toInt : ℝ) : EReal)) (kn (ix3 b 0 d)) := by
  have e : shapeCast S16x1x128 kn shapeCasts_S16x1x128_S16x1x128 (ix3 b 0 d) = kn (ix3 b 0 d) := congrFun (shapeCast_self _ _) _
  rw [← e]
  rfl

/-- The new values' codes. -/
theorem valCodes_apply (vn : Vec Ideal S16x1x128 .bf16) (w : BitVec 32) (b : Fin 16) (d : Fin 128) :
    k0_pay5 (F := Ideal) (k0_pay3 vn w) k0_pay4 (ix3 b 0 d) = quant (Ideal.exp2 (((Scales.asPower (Scales.biased w)).toInt : ℝ) : EReal)) (vn (ix3 b 0 d)) := by
  have e : shapeCast S16x1x128 vn shapeCasts_S16x1x128_S16x1x128 (ix3 b 0 d) = vn (ix3 b 0 d) := congrFun (shapeCast_self _ _) _
  rw [← e]
  rfl

/-! ## The scores -/

section
variable (wk wv : BitVec 32) (q : Vec Ideal S16x16x128 .bf16) (kn vn : FVec Ideal S16x1x128 .fp8e4m3) (kc vc : Vec Ideal S16x65536x128 .fp8e4m3)

/-- The score of query row `h` with token `k`. -/
theorem scores_apply (b h : Fin 16) (k : Fin 65536) :
    k0_pay11 (F := Ideal) wk q kc (ix3 b h k) = score (fun d => q (ix3 b h d)) (Ideal.ofBits .f32 wk) (codes fun k d => kc (ix3 b k d)) k.val := by
  unfold k0_pay11 score dot
  refine (mulf_apply _ _ _).trans (congrArg (· * _) ?_)
  refine (dotKeys_apply _ _ _ b h k).trans ?_
  rw [constant_apply, Ideal.ofBits_zero_f32, zero_add]
  refine Finset.sum_congr rfl fun d _ => congrArg₂ (· * ·) (congrFun (shapeCast_self q _) _) ?_
  refine (mulf_apply _ _ _).trans (congrArg (· * _) ?_)
  exact (congrFun (shapeCast_self kc _) _).trans (codes_lt (fun k d => kc (ix3 b k d)) k d).symm

/-- The score of query row `h` with the new token. -/
theorem newScore_apply (b h : Fin 16) :
    k0_pay12 (F := Ideal) kn wk q (ix3 b h 0) = dot (fun d => q (ix3 b h d)) (Ideal.ofBits .f32 wk) fun d => kn (ix3 b 0 d) := by
  unfold k0_pay12 dot
  refine (mulf_apply _ _ _).trans (congrArg (· * _) ?_)
  refine (dotNew_apply _ _ _ b h).trans ?_
  rw [constant_apply, Ideal.ofBits_zero_f32, zero_add]
  exact Finset.sum_congr rfl fun d _ => congrArg₂ (· * ·) (congrFun (shapeCast_self q _) _) (mulf_apply _ _ _)

/-- The values of the cached tokens. -/
theorem values_apply (b : Fin 16) (k : Fin 65536) (d : Fin 128) :
    k0_pay9 (F := Ideal) wv vc (ix3 b k d) = value (Ideal.ofBits .f32 wv) (codes fun k d => vc (ix3 b k d)) d k.val := by
  unfold k0_pay9 value
  refine (mulf_apply _ _ _).trans (congrArg (· * _) ?_)
  exact (congrFun (shapeCast_self vc _) _).trans (codes_lt (fun k d => vc (ix3 b k d)) k d).symm

/-- A row of scores reduced to one number, kept as an array. -/
theorem kept_apply (y : FVec Ideal S16x16 .f32) (b h : Fin 16) : shapeCast S16x16x1 y shapeCasts_S16x16_S16x16x1 (ix3 b h 0) = y (ix2 b h) :=
  shapeCast_apply y _ _ _ (by
    rw [Shape.rowMajor_val_three, Shape.rowMajor_val_two]
    show b.val * 16 + h.val = (b.val * 16 + h.val) * 1 + 0
    omega)

/-- The word of minus infinity. -/
theorem negInf : Ideal.ofBits .f32 0xFF800000#32 = (⊥ : EReal) := by
  simp [Ideal.ofBits, Ideal.ieee]

/-- A bound on the largest score of the cached tokens. -/
theorem largest_le (b h : Fin 16) (X : EReal) :
    k0_pay13 (F := Ideal) wk q kc (ix3 b h 0) ≤ X ↔ ∀ k : Fin 65536, k0_pay11 (F := Ideal) wk q kc (ix3 b h k) ≤ X := by
  have e : k0_pay13 (F := Ideal) wk q kc (ix3 b h 0)
      = (Finset.univ : Finset (Fin 65536)).fold max (Ideal.ofBits .f32 0xFF800000#32) (fun k => k0_pay11 (F := Ideal) wk q kc (ix3 b h k)) := by
    unfold k0_pay13
    refine (kept_apply _ b h).trans ((Ideal.multiReduction_maximumf_single _ _ _ _ _ (ix2 b h)).trans ?_)
    refine congrArg (Finset.fold max (Ideal.ofBits .f32 0xFF800000#32) · Finset.univ) (funext fun k => ?_)
    refine congrArg (k0_pay11 (F := Ideal) wk q kc) (funext fun a => ?_)
    match a with
    | ⟨0, _⟩ => rfl
    | ⟨1, _⟩ => rfl
    | ⟨2, _⟩ => rfl
  rw [e, Finset.fold_max_le, negInf]
  simp

end

/-! ## The attention -/

/-- A column of numbers along the tokens. -/
theorem along_tokens (y : FVec Ideal S16x16x1 .f32) (b h : Fin 16) (k : Fin 65536) :
    broadcastTo S16x16x65536 y broadcasts_S16x16x1_S16x16x65536 (ix3 b h k) = y (ix3 b h 0) :=
  broadcastTo_apply _ _ _ _ (fun a => match a with
    | ⟨0, _⟩ => rfl
    | ⟨1, _⟩ => rfl
    | ⟨2, _⟩ => rfl)

/-- A column of numbers along the value columns. -/
theorem along_columns (y : FVec Ideal S16x16x1 .f32) (b h : Fin 16) (d : Fin 128) :
    broadcastTo S16x16x128 y broadcasts_S16x16x1_S16x16x128 (ix3 b h d) = y (ix3 b h 0) :=
  broadcastTo_apply _ _ _ _ (fun a => match a with
    | ⟨0, _⟩ => rfl
    | ⟨1, _⟩ => rfl
    | ⟨2, _⟩ => rfl)

/-- The attention of scores `s`, values `v`, the new token's score `s0` and value `v0`, and the cached tokens' largest score `m`. -/
theorem attend_apply (v : FVec Ideal S16x65536x128 .bf16) (v0 : FVec Ideal S16x1x128 .bf16) (s : FVec Ideal S16x16x65536 .f32) (s0 m : FVec Ideal S16x16x1 .f32)
    (s' v' : ℕ → EReal) (b h : Fin 16) (d : Fin 128) (hs : ∀ k : Fin 65536, s (ix3 b h k) = s' k.val) (hv : ∀ k : Fin 65536, v (ix3 b k d) = v' k.val) :
    k0_pay1 (F := Ideal) v v0 s s0 m (ix3 b h d)
      = attend s' v' (s0 (ix3 b h 0)) (v0 (ix3 b 0 d)) (max (m (ix3 b h 0)) (s0 (ix3 b h 0))) := by
  have hw (k : Fin 65536) : exp (subf s (broadcastTo S16x16x65536 (maximumf m s0) broadcasts_S16x16x1_S16x16x65536)) (ix3 b h k)
      = wt (s' k.val) (max (m (ix3 b h 0)) (s0 (ix3 b h 0))) := by
    rw [← hs k]
    exact congrArg (fun x => Ideal.exp (s (ix3 b h k) - x)) (along_tokens _ b h k)
  have h0 : exp (subf s0 (maximumf m s0)) (ix3 b h 0) = wt (s0 (ix3 b h 0)) (max (m (ix3 b h 0)) (s0 (ix3 b h 0))) := rfl
  simp only [k0_pay1, truncf_apply, divf_apply, addf_apply]
  unfold attend
  refine congrArg₂ Ideal.div ?_ ?_
  · refine congrArg₂ (· + ·) ?_ ?_
    · refine (dotVals_apply _ _ _ b h d).trans ?_
      rw [constant_apply, Ideal.ofBits_zero_f32, zero_add, Finset.sum_range]
      exact Finset.sum_congr rfl fun k _ => congrArg₂ (· * ·) (hw k) (hv k)
    · refine (dotNewVal_apply _ _ _ b h d).trans ?_
      rw [constant_apply, Ideal.ofBits_zero_f32, zero_add]
      exact congrArg (· * _) h0
  · refine (along_columns _ b h d).trans ((addf_apply _ _ _).trans (congrArg₂ (· + ·) ?_ h0))
    refine (kept_apply _ b h).trans ((Ideal.multiReduction_add_single _ _ _ _ _ (ix2 b h)).trans ?_)
    rw [Finset.sum_range]
    refine Finset.sum_congr rfl fun k _ => Eq.trans ?_ (hw k)
    refine congrArg (exp _) (funext fun a => ?_)
    match a with
    | ⟨0, _⟩ => rfl
    | ⟨1, _⟩ => rfl
    | ⟨2, _⟩ => rfl

/-- The reference's attention: `q` the queries, `kn` and `vn` the new token's codes, `kc` and `vc` the caches. -/
theorem attention_apply (wk wv : BitVec 32) (q : Vec Ideal S16x16x128 .bf16) (kn : FVec Ideal S16x1x128 .fp8e4m3) (vn vn' : FVec Ideal S16x1x128 .f32)
    (kc vc : Vec Ideal S16x65536x128 .fp8e4m3) (b h : Fin 16) (d : Fin 128) :
    ∃ M, Largest (score (fun d => q (ix3 b h d)) (Ideal.ofBits .f32 wk) (codes fun k d => kc (ix3 b k d)))
        (dot (fun d => q (ix3 b h d)) (Ideal.ofBits .f32 wk) fun d => kn (ix3 b 0 d)) M
      ∧ k0_pay1 (F := Ideal) (k0_pay9 wv vc) (k0_pay10 vn vn' wv) (k0_pay11 wk q kc) (k0_pay12 kn wk q) (k0_pay13 wk q kc) (ix3 b h d)
        = attend (score (fun d => q (ix3 b h d)) (Ideal.ofBits .f32 wk) (codes fun k d => kc (ix3 b k d)))
          (value (Ideal.ofBits .f32 wv) (codes fun k d => vc (ix3 b k d)) d)
          (dot (fun d => q (ix3 b h d)) (Ideal.ofBits .f32 wk) fun d => kn (ix3 b 0 d))
          (k0_pay5 (F := Ideal) vn vn' (ix3 b 0 d) * Ideal.ofBits .f32 wv) M := by
  refine ⟨max (k0_pay13 (F := Ideal) wk q kc (ix3 b h 0)) (k0_pay12 (F := Ideal) kn wk q (ix3 b h 0)), fun X => ?_, ?_⟩
  · rw [max_le_iff, largest_le, newScore_apply, and_comm]
    refine and_congr_right fun _ => ⟨fun g k hk => ?_, fun g k => ?_⟩
    · have := g ⟨k, hk⟩; rwa [scores_apply] at this
    · rw [scores_apply]; exact g k.val k.isLt
  · refine (attend_apply _ _ _ _ _ _ _ b h d (scores_apply wk q kc b h) (fun k => values_apply wv vc b k d)).trans ?_
    rw [newScore_apply]
    rfl

end Cert.ReferenceIdeal.Entries

end
-- ==== Proof.Equation.lean ====
module

public import proofs.«01_k».proof.Pre_scale_words
public import proofs.«01_k».proof.Proof.Result
public import proofs.«01_k».proof.Proof.RefArr
public import proofs.«01_k».proof.Proof.RefValue
public import Idealize.ShloMosaic.Lib.ReduceAll
public import Idealize.ShloMosaic.Lib.Affine

/-! The kernel's results are the reference's, when both are given the same arguments and the two scale words are in range. -/

@[expose] public section

noncomputable section

namespace Cert.Equation

open Cert.Online
open Idealize.ShloMosaic Idealize.ShloMosaic.TcCoe Idealize.ShloMosaic.ValueIdx

/-! ## The precondition -/

/-- The shape relations the precondition's operations take hold. -/
theorem pre_facts : Cert.Pre_scale_words.Facts := ⟨by decide, by decide, by decide⟩

/-- What the precondition says: each scale word is that of a number from 0 up to, and not including, `2 ^ 127`. -/
theorem words_ok [Cert.Pre_scale_words.Facts] (a0 : FVec Ideal Cert.Pre_scale_words.S16x1x2048 .bf16) (a1 a2 : FVec Ideal Cert.Pre_scale_words.S16x1x1x128 .bf16)
    (a3 : FVec Ideal Cert.Pre_scale_words.S16x65536x1x128 .fp8e4m3) (wk : IVec Cert.Pre_scale_words.S1 32)
    (a5 : FVec Ideal Cert.Pre_scale_words.S16x65536x1x128 .fp8e4m3) (wv : IVec Cert.Pre_scale_words.S1 32)
    (h : Cert.Pre_scale_words.fn (F := Ideal) a0 a1 a2 a3 wk a5 wv = fun _ => 1#1) : Scales.Ok (wk (ix1 0)) ∧ Scales.Ok (wv (ix1 0)) := by
  have e := congrFun h fun a => a.elim0
  dsimp only [Cert.Pre_scale_words.fn] at e
  obtain ⟨ek, ev⟩ := IntOp.andi_eq_one.1 e
  obtain ⟨k0, k1⟩ := IntOp.andi_eq_one.1 (Host.reduce_andi_all _ _ _ _ _ ek (ix1 0))
  obtain ⟨v0, v1⟩ := IntOp.andi_eq_one.1 (Host.reduce_andi_all _ _ _ _ _ ev (ix1 0))
  exact ⟨Scales.Ok.of_compare k0 k1, Scales.Ok.of_compare v0 v1⟩

/-! ## The results -/

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two programs are given the same arguments on device `c`. -/
abbrev Same : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

variable (s : Same m m' c)
include s

theorem wordK_eq : Cert.ReferenceIdeal.Arrays.wordK m' c = Cert.KernelIdeal.Result.wordK m c := congrFun s.2.2.2.2.1 (ix1 0)

theorem wordV_eq : Cert.ReferenceIdeal.Arrays.wordV m' c = Cert.KernelIdeal.Result.wordV m c := congrFun s.2.2.2.2.2.2 (ix1 0)

theorem row_eq (b h : Fin 16) (d : Fin 128) : Cert.ReferenceIdeal.Arrays.queries m' c (ix3 b h d) = Cert.KernelIdeal.Result.row m c b h d :=
  (Reshapes.rows_apply _ _ b h d).trans (congrFun s.1 (ix3 b 0 (Reshapes.column h d)))

theorem keysOf_eq (b : Fin 16) : codes (fun k d => Cert.ReferenceIdeal.Arrays.keyCache m' c (ix3 b k d)) = Cert.KernelIdeal.Result.keysOf m c b :=
  congrArg codes (funext fun k => funext fun d => (Reshapes.cache_apply _ _ b k d).trans (congrFun s.2.2.2.1 (ix4 b k 0 d)))

theorem valsOf_eq (b : Fin 16) : codes (fun k d => Cert.ReferenceIdeal.Arrays.valCache m' c (ix3 b k d)) = Cert.KernelIdeal.Result.valsOf m c b :=
  congrArg codes (funext fun k => funext fun d => (Reshapes.cache_apply _ _ b k d).trans (congrFun s.2.2.2.2.2.1 (ix4 b k 0 d)))

/-- A new key's codes. -/
theorem newK_eq (hK : Scales.Ok (Cert.KernelIdeal.Result.wordK m c)) (b : Fin 16) (d : Fin 128) :
    Cert.ReferenceIdeal.Arrays.keyCodes m' c (ix3 b 0 d) = Cert.KernelIdeal.Result.newK m c b d := by
  refine (Cert.ReferenceIdeal.Entries.keyCodes_apply _ _ b d).trans ?_
  rw [wordK_eq m m' c s, ← Scales.inverse_eq hK]
  exact congrArg (quant _) ((Reshapes.token_apply _ _ b d).trans (congrFun s.2.1 (ix4 b 0 0 d)))

/-- A new value's codes. -/
theorem newV_eq (hV : Scales.Ok (Cert.KernelIdeal.Result.wordV m c)) (b : Fin 16) (d : Fin 128) :
    Cert.ReferenceIdeal.Arrays.valCodes m' c (ix3 b 0 d) = Cert.KernelIdeal.Result.newV m c b d := by
  refine (Cert.ReferenceIdeal.Entries.valCodes_apply _ _ b d).trans ?_
  rw [wordV_eq m m' c s, ← Scales.inverse_eq hV]
  exact congrArg (quant _) ((Reshapes.token_apply _ _ b d).trans (congrFun s.2.2.1 (ix4 b 0 0 d)))

/-- Results 2 and 4. -/
theorem keyCodes_eq (hK : Scales.Ok (Cert.KernelIdeal.Result.wordK m c)) :
    Cert.ReferenceIdeal.Arrays.keyCodes m' c = Cert.KernelIdeal.Result.keyCodes m c := by
  funext i
  have e : ∀ u : Fin 1, Cert.ReferenceIdeal.Arrays.keyCodes m' c (ix3 (i 0) u (i 2)) = Cert.KernelIdeal.Result.newK m c (i 0) (i 2) := fun u => by
    rw [Subsingleton.elim u 0]; exact newK_eq m m' c s hK (i 0) (i 2)
  exact (congrArg (Cert.ReferenceIdeal.Arrays.keyCodes m' c) (eq_ix3 i)).trans (e (i 1))

@[inherit_doc keyCodes_eq] theorem valCodes_eq (hV : Scales.Ok (Cert.KernelIdeal.Result.wordV m c)) :
    Cert.ReferenceIdeal.Arrays.valCodes m' c = Cert.KernelIdeal.Result.valCodes m c := by
  funext i
  have e : ∀ u : Fin 1, Cert.ReferenceIdeal.Arrays.valCodes m' c (ix3 (i 0) u (i 2)) = Cert.KernelIdeal.Result.newV m c (i 0) (i 2) := fun u => by
    rw [Subsingleton.elim u 0]; exact newV_eq m m' c s hV (i 0) (i 2)
  exact (congrArg (Cert.ReferenceIdeal.Arrays.valCodes m' c) (eq_ix3 i)).trans (e (i 1))

/-- Result 1: both are the softmax attention over the 65536 cached tokens and the new one, and there is one largest score. -/
theorem attention_eq (hK : Scales.Ok (Cert.KernelIdeal.Result.wordK m c)) (hV : Scales.Ok (Cert.KernelIdeal.Result.wordV m c)) :
    Cert.ReferenceIdeal.Arrays.attention m' c = Cert.KernelIdeal.Result.attention m c := by
  funext i
  have key : ∀ (b h : Fin 16) (d : Fin 128), Cert.ReferenceIdeal.Arrays.attention m' c (ix3 b h d) = Cert.KernelIdeal.Result.attention m c (ix3 b h d) := by
    intro b h d
    obtain ⟨M, L, e⟩ := Cert.KernelIdeal.Result.attention_apply m c hK hV b h d
    obtain ⟨M', L', e'⟩ := Cert.ReferenceIdeal.Entries.attention_apply (Cert.ReferenceIdeal.Arrays.wordK m' c) (Cert.ReferenceIdeal.Arrays.wordV m' c)
      (Cert.ReferenceIdeal.Arrays.queries m' c) (Cert.ReferenceIdeal.Arrays.keyCodes m' c)
      (Cert.ReferenceIdeal.Gen.k0_pay3 (Cert.ReferenceIdeal.Arrays.newVals m' c) (Cert.ReferenceIdeal.Arrays.wordV m' c)) Cert.ReferenceIdeal.Gen.k0_pay4
      (Cert.ReferenceIdeal.Arrays.keyCache m' c) (Cert.ReferenceIdeal.Arrays.valCache m' c) b h d
    replace e' := (show Cert.ReferenceIdeal.Arrays.attention m' c (ix3 b h d) = _ from e')
    have hq : (fun d => Cert.ReferenceIdeal.Arrays.queries m' c (ix3 b h d)) = Cert.KernelIdeal.Result.row m c b h := funext (row_eq m m' c s b h)
    have hn : (fun d => Cert.ReferenceIdeal.Arrays.keyCodes m' c (ix3 b 0 d)) = Cert.KernelIdeal.Result.newK m c b := funext (newK_eq m m' c s hK b)
    have hv : Cert.ReferenceIdeal.Gen.k0_pay5 (F := Ideal) (Cert.ReferenceIdeal.Gen.k0_pay3 (Cert.ReferenceIdeal.Arrays.newVals m' c) (Cert.ReferenceIdeal.Arrays.wordV m' c))
        Cert.ReferenceIdeal.Gen.k0_pay4 (ix3 b 0 d) = Cert.KernelIdeal.Result.newV m c b d := newV_eq m m' c s hV b d
    rw [hq, hn, keysOf_eq m m' c s b, wordK_eq m m' c s] at L' e'
    rw [valsOf_eq m m' c s b, hv, wordV_eq m m' c s] at e'
    rw [e, L.eq L', e']
  exact (congrArg (Cert.ReferenceIdeal.Arrays.attention m' c) (eq_ix3 i)).trans ((key (i 0) (i 1) (i 2)).trans
    (congrArg (Cert.KernelIdeal.Result.attention m c) (eq_ix3 i).symm))

end

end Cert.Equation

end
-- ==== Proof.lean ====
module

public import proofs.«01_k».proof.Defs
public import proofs.«01_k».proof.Proof.Same
public import proofs.«01_k».proof.Proof.Gen.ReferenceIdeal.Frame
public import proofs.«01_k».proof.Proof.Equation

/-! The certificate: every claim of `Cert.Claim`. -/

@[expose] public section

open Idealize.ShloMosaic

/-- The certificate: the three programs' frames, that the kernel proved is the kernel's own code, and that its five results are the
reference's over the extended reals when the two scale words are in range. -/
theorem Cert.Proof.claim : Cert.Claim := by
  refine ⟨Cert.Kernel.Gen.facts, Cert.KernelIdeal.Gen.facts, Cert.ReferenceIdeal.Gen.facts, Cert.Equation.pre_facts,
    fun m g _ => Cert.Same.frame Bits m g, fun m g _ => Cert.KernelIdeal.Body.frame m g, fun m g _ => Cert.KernelIdeal.Body.frame m g,
    fun m g _ => Cert.ReferenceIdeal.Gen.frame m g, fun m g _ => Cert.ReferenceIdeal.Gen.frame m g, trivial, fun m g m' g' hp hs => ?_⟩
  haveI := Cert.Equation.pre_facts
  have ok := fun c => Cert.Equation.words_ok _ _ _ _ _ _ _ (hp c)
  refine ⟨Cert.KernelIdeal.Result.attention m, Cert.KernelIdeal.Result.keyCodes m, fun c => m ((c.tc : Thread _ _).loc Cert.KernelIdeal.main_arg4),
    Cert.KernelIdeal.Result.valCodes m, fun c => m ((c.tc : Thread _ _).loc Cert.KernelIdeal.main_arg6), ?_, ?_⟩
  · refine (θ_run _ _ _).mono (fun r h c => ?_) (θ_run_and (Cert.KernelIdeal.Body.run_main m g) (Cert.KernelIdeal.Body.frame m g))
    exact ⟨((h.1 c).1 7).trans (Cert.KernelIdeal.Result.arr7 m c), ((h.1 c).1 8).trans (Cert.KernelIdeal.Result.arr8 m c),
      (h.2.1 c).2.2.2.2.1, ((h.1 c).1 9).trans (Cert.KernelIdeal.Result.arr9 m c), (h.2.1 c).2.2.2.2.2.2, h.2.1 c⟩
  · refine (θ_run _ _ _).mono (fun r h c => ?_) (Cert.ReferenceIdeal.Value.run_blocks m' g')
    obtain ⟨h7, h8, h9, kept⟩ := h c
    exact ⟨h7.trans ((Cert.ReferenceIdeal.Arrays.arr7 m' c).trans (Cert.Equation.attention_eq m m' c (hs c) (ok c).1 (ok c).2)),
      h8.trans ((Cert.ReferenceIdeal.Arrays.arr8 m' c).trans (Cert.Equation.keyCodes_eq m m' c (hs c) (ok c).1)),
      kept.2.2.2.2.1.trans (hs c).2.2.2.2.1,
      h9.trans ((Cert.ReferenceIdeal.Arrays.arr9 m' c).trans (Cert.Equation.valCodes_eq m m' c (hs c) (ok c).2)),
      kept.2.2.2.2.2.2.trans (hs c).2.2.2.2.2.2, kept⟩
